-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x7x1x45x45 : Shape := ⟨5, ![64, 7, 1, 45, 45]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S1024x7744 : Shape := ⟨2, ![1024, 7744]⟩
abbrev S1024 : Shape := ⟨1, ![1024]⟩
abbrev S14x1024 : Shape := ⟨2, ![14, 1024]⟩
abbrev S14 : Shape := ⟨1, ![14]⟩
abbrev S448x1x45x45 : Shape := ⟨4, ![448, 1, 45, 45]⟩
abbrev S32x9 : Shape := ⟨2, ![32, 9]⟩
abbrev S9x32 : Shape := ⟨2, ![9, 32]⟩
abbrev S1x32 : Shape := ⟨2, ![1, 32]⟩
abbrev S64x3x3x32 : Shape := ⟨4, ![64, 3, 3, 32]⟩
abbrev S64x288 : Shape := ⟨2, ![64, 288]⟩
abbrev S1x64 : Shape := ⟨2, ![1, 64]⟩
abbrev S448x7744 : Shape := ⟨2, ![448, 7744]⟩
abbrev S8x1x45x45 : Shape := ⟨4, ![8, 1, 45, 45]⟩
abbrev S8x7744 : Shape := ⟨2, ![8, 7744]⟩
abbrev S8x45x45 : Shape := ⟨3, ![8, 45, 45]⟩
abbrev S8x1x45 : Shape := ⟨3, ![8, 1, 45]⟩
abbrev S8x46x45 : Shape := ⟨3, ![8, 46, 45]⟩
abbrev S8x47x45 : Shape := ⟨3, ![8, 47, 45]⟩
abbrev S8x47x1 : Shape := ⟨3, ![8, 47, 1]⟩
abbrev S8x47x46 : Shape := ⟨3, ![8, 47, 46]⟩
abbrev S8x47x47 : Shape := ⟨3, ![8, 47, 47]⟩
abbrev S1x1x1x32 : Shape := ⟨4, ![1, 1, 1, 32]⟩
abbrev S8x45x45x32 : Shape := ⟨4, ![8, 45, 45, 32]⟩
abbrev S8x45x45x1 : Shape := ⟨4, ![8, 45, 45, 1]⟩
abbrev S8x44x44x32 : Shape := ⟨4, ![8, 44, 44, 32]⟩
abbrev S8x22x2x22x2x32 : Shape := ⟨6, ![8, 22, 2, 22, 2, 32]⟩
abbrev S8x22x2x22x32 : Shape := ⟨5, ![8, 22, 2, 22, 32]⟩
abbrev S8x22x22x32 : Shape := ⟨4, ![8, 22, 22, 32]⟩
abbrev S8x1x22x32 : Shape := ⟨4, ![8, 1, 22, 32]⟩
abbrev S8x23x22x32 : Shape := ⟨4, ![8, 23, 22, 32]⟩
abbrev S8x24x22x32 : Shape := ⟨4, ![8, 24, 22, 32]⟩
abbrev S8x24x1x32 : Shape := ⟨4, ![8, 24, 1, 32]⟩
abbrev S8x24x23x32 : Shape := ⟨4, ![8, 24, 23, 32]⟩
abbrev S8x24x24x32 : Shape := ⟨4, ![8, 24, 24, 32]⟩
abbrev S8x22x22x288 : Shape := ⟨4, ![8, 22, 22, 288]⟩
abbrev S3872x288 : Shape := ⟨2, ![3872, 288]⟩
abbrev S3872x64 : Shape := ⟨2, ![3872, 64]⟩
abbrev S8x22x22x64 : Shape := ⟨4, ![8, 22, 22, 64]⟩
abbrev S8x11x2x11x2x64 : Shape := ⟨6, ![8, 11, 2, 11, 2, 64]⟩
abbrev S8x11x2x11x64 : Shape := ⟨5, ![8, 11, 2, 11, 64]⟩
abbrev S8x11x11x64 : Shape := ⟨4, ![8, 11, 11, 64]⟩
abbrev S1024x64x11x11 : Shape := ⟨4, ![1024, 64, 11, 11]⟩
abbrev S1024x11x11x64 : Shape := ⟨4, ![1024, 11, 11, 64]⟩
abbrev S1x1024 : Shape := ⟨2, ![1, 1024]⟩
abbrev S1x14 : Shape := ⟨2, ![1, 14]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S64x7x7x14 : Shape := ⟨4, ![64, 7, 7, 14]⟩
abbrev S448x98 : Shape := ⟨2, ![448, 98]⟩
abbrev S64x7 : Shape := ⟨2, ![64, 7]⟩
abbrev S448 : Shape := ⟨1, ![448]⟩
abbrev S448x1 : Shape := ⟨2, ![448, 1]⟩
abbrev S7 : Shape := ⟨1, ![7]⟩
abbrev S1x7 : Shape := ⟨2, ![1, 7]⟩
abbrev S448x14 : Shape := ⟨2, ![448, 14]⟩
abbrev S256x7744 : Shape := ⟨2, ![256, 7744]⟩
abbrev S448x1024 : Shape := ⟨2, ![448, 1024]⟩
abbrev S448x256 : Shape := ⟨2, ![448, 256]⟩
abbrev S448x1x14 : Shape := ⟨3, ![448, 1, 14]⟩
abbrev S448x7x14 : Shape := ⟨3, ![448, 7, 14]⟩
abbrev S448x7 : Shape := ⟨2, ![448, 7]⟩
abbrev S448x7x1 : Shape := ⟨3, ![448, 7, 1]⟩
abbrev S64x7x14 : Shape := ⟨3, ![64, 7, 14]⟩

abbrev nBuf : Space → Nat
  | .hbm => 323
  | .vmem => 20
  | .smem => 0
  | _ => 0

abbrev hbmTy0_0 (i : Nat) : BufTy := match i % 128 with
  | 0 => ⟨S64x7x1x45x45, .f32⟩
  | 1 => ⟨S32x1x3x3, .f32⟩
  | 2 => ⟨S32, .f32⟩
  | 3 => ⟨S64x32x3x3, .f32⟩
  | 4 => ⟨S64, .f32⟩
  | 5 => ⟨S1024x7744, .f32⟩
  | 6 => ⟨S1024, .f32⟩
  | 7 => ⟨S14x1024, .f32⟩
  | 8 => ⟨S14, .f32⟩
  | 9 => ⟨S64, .i32⟩
  | 10 => ⟨S448x1x45x45, .f32⟩
  | 11 => ⟨S32x9, .f32⟩
  | 12 => ⟨S9x32, .f32⟩
  | 13 => ⟨S1x32, .f32⟩
  | 14 => ⟨S64x3x3x32, .f32⟩
  | 15 => ⟨S64x288, .f32⟩
  | 16 => ⟨S1x64, .f32⟩
  | 17 => ⟨S448x7744, .f32⟩
  | 18 => ⟨S1024x64x11x11, .f32⟩
  | 19 => ⟨S1024x11x11x64, .f32⟩
  | 20 => ⟨S1024x7744, .f32⟩
  | 21 => ⟨S1x1024, .f32⟩
  | 22 => ⟨S1x14, .f32⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S1x1x1x1, .f32⟩
  | 37 => ⟨S1x1x1x1, .f32⟩
  | 38 => ⟨S1, .i32⟩
  | 39 => ⟨S_, .i32⟩
  | 40 => ⟨S1, .i32⟩
  | 41 => ⟨S_, .i32⟩
  | 42 => ⟨S64x7x7x14, .i64⟩
  | 43 => ⟨S64x7x7x14, .i64⟩
  | 44 => ⟨S64x7x7x14, .i64⟩
  | 45 => ⟨S64x7x7x14, .i64⟩
  | 46 => ⟨S_, .i64⟩
  | 47 => ⟨S64x7x7x14, .i64⟩
  | 48 => ⟨S64x7x7x14, .i64⟩
  | 49 => ⟨S_, .i64⟩
  | 50 => ⟨S64x7x7x14, .i64⟩
  | 51 => ⟨S64x7x7x14, .i64⟩
  | 52 => ⟨S_, .i64⟩
  | 53 => ⟨S64x7x7x14, .i64⟩
  | 54 => ⟨S64x7x7x14, .i64⟩
  | 55 => ⟨S_, .i64⟩
  | 56 => ⟨S64x7x7x14, .i64⟩
  | 57 => ⟨S64x7x7x14, .i64⟩
  | 58 => ⟨S64x7x7x14, .i64⟩
  | 59 => ⟨S64x7x7x14, .i64⟩
  | 60 => ⟨S64x7x7x14, .i64⟩
  | 61 => ⟨S_, .i64⟩
  | 62 => ⟨S64x7x7x14, .i64⟩
  | 63 => ⟨S64x7x7x14, .i64⟩
  | 64 => ⟨S64x7x7x14, .i32⟩
  | 65 => ⟨S64x7x7x14, .i32⟩
  | 66 => ⟨S_, .i32⟩
  | 67 => ⟨S_, .i32⟩
  | 68 => ⟨S_, .i32⟩
  | 69 => ⟨S64x7x7x14, .i32⟩
  | 70 => ⟨S64x7x7x14, .i32⟩
  | 71 => ⟨S64x7x7x14, .i32⟩
  | 72 => ⟨S64x7x7x14, .i32⟩
  | 73 => ⟨S64x7x7x14, .i32⟩
  | 74 => ⟨S_, .i32⟩
  | 75 => ⟨S64x7x7x14, .i32⟩
  | 76 => ⟨S64x7x7x14, .i32⟩
  | 77 => ⟨S_, .i32⟩
  | 78 => ⟨S64x7x7x14, .i32⟩
  | 79 => ⟨S64x7x7x14, .i32⟩
  | 80 => ⟨S64x7x7x14, .i32⟩
  | 81 => ⟨S64x7x7x14, .i32⟩
  | 82 => ⟨S64x7x7x14, .i32⟩
  | 83 => ⟨S_, .i32⟩
  | 84 => ⟨S64x7x7x14, .i32⟩
  | 85 => ⟨S64x7x7x14, .i32⟩
  | 86 => ⟨S_, .i32⟩
  | 87 => ⟨S64x7x7x14, .i32⟩
  | 88 => ⟨S64x7x7x14, .i32⟩
  | 89 => ⟨S64x7x7x14, .i32⟩
  | 90 => ⟨S64x7x7x14, .i32⟩
  | 91 => ⟨S64x7x7x14, .i32⟩
  | 92 => ⟨S_, .i32⟩
  | 93 => ⟨S64x7x7x14, .i32⟩
  | 94 => ⟨S64x7x7x14, .i32⟩
  | 95 => ⟨S_, .i32⟩
  | 96 => ⟨S64x7x7x14, .i32⟩
  | 97 => ⟨S64x7x7x14, .i32⟩
  | 98 => ⟨S64x7x7x14, .i32⟩
  | 99 => ⟨S64x7x7x14, .i32⟩
  | 100 => ⟨S64x7x7x14, .i32⟩
  | 101 => ⟨S_, .i32⟩
  | 102 => ⟨S64x7x7x14, .i32⟩
  | 103 => ⟨S64x7x7x14, .i32⟩
  | 104 => ⟨S_, .i32⟩
  | 105 => ⟨S64x7x7x14, .i32⟩
  | 106 => ⟨S64x7x7x14, .i32⟩
  | 107 => ⟨S64x7x7x14, .i32⟩
  | 108 => ⟨S64x7x7x14, .i32⟩
  | 109 => ⟨S64x7x7x14, .i32⟩
  | 110 => ⟨S64x7x7x14, .i32⟩
  | 111 => ⟨S64x7x7x14, .i32⟩
  | 112 => ⟨S64x7x7x14, .i32⟩
  | 113 => ⟨S_, .i32⟩
  | 114 => ⟨S64x7x7x14, .i32⟩
  | 115 => ⟨S64x7x7x14, .i32⟩
  | 116 => ⟨S64x7x7x14, .i32⟩
  | 117 => ⟨S_, .i32⟩
  | 118 => ⟨S64x7x7x14, .i32⟩
  | 119 => ⟨S64x7x7x14, .i32⟩
  | 120 => ⟨S_, .i32⟩
  | 121 => ⟨S64x7x7x14, .i32⟩
  | 122 => ⟨S64x7x7x14, .i32⟩
  | 123 => ⟨S64x7x7x14, .i32⟩
  | 124 => ⟨S64x7x7x14, .i32⟩
  | 125 => ⟨S64x7x7x14, .i32⟩
  | 126 => ⟨S_, .i32⟩
  | 127 => ⟨S64x7x7x14, .i32⟩
  | _ => ⟨S64x7x1x45x45, .f32⟩

abbrev hbmTy0_1 (i : Nat) : BufTy := match i % 128 with
  | 0 => ⟨S64x7x7x14, .i32⟩
  | 1 => ⟨S_, .i32⟩
  | 2 => ⟨S64x7x7x14, .i32⟩
  | 3 => ⟨S64x7x7x14, .i32⟩
  | 4 => ⟨S64x7x7x14, .i32⟩
  | 5 => ⟨S64x7x7x14, .i32⟩
  | 6 => ⟨S64x7x7x14, .i32⟩
  | 7 => ⟨S_, .i32⟩
  | 8 => ⟨S64x7x7x14, .i32⟩
  | 9 => ⟨S64x7x7x14, .i32⟩
  | 10 => ⟨S_, .i32⟩
  | 11 => ⟨S64x7x7x14, .i32⟩
  | 12 => ⟨S64x7x7x14, .i32⟩
  | 13 => ⟨S64x7x7x14, .i32⟩
  | 14 => ⟨S64x7x7x14, .i32⟩
  | 15 => ⟨S64x7x7x14, .i32⟩
  | 16 => ⟨S_, .i32⟩
  | 17 => ⟨S64x7x7x14, .i32⟩
  | 18 => ⟨S64x7x7x14, .i32⟩
  | 19 => ⟨S_, .i32⟩
  | 20 => ⟨S64x7x7x14, .i32⟩
  | 21 => ⟨S64x7x7x14, .i32⟩
  | 22 => ⟨S64x7x7x14, .i32⟩
  | 23 => ⟨S64x7x7x14, .i32⟩
  | 24 => ⟨S64x7x7x14, .i32⟩
  | 25 => ⟨S64x7x7x14, .i32⟩
  | 26 => ⟨S64x7x7x14, .i32⟩
  | 27 => ⟨S64x7x7x14, .i32⟩
  | 28 => ⟨S_, .i32⟩
  | 29 => ⟨S64x7x7x14, .i32⟩
  | 30 => ⟨S64x7x7x14, .i32⟩
  | 31 => ⟨S64x7x7x14, .i32⟩
  | 32 => ⟨S_, .i32⟩
  | 33 => ⟨S64x7x7x14, .i32⟩
  | 34 => ⟨S64x7x7x14, .i32⟩
  | 35 => ⟨S_, .i32⟩
  | 36 => ⟨S64x7x7x14, .i32⟩
  | 37 => ⟨S64x7x7x14, .i32⟩
  | 38 => ⟨S64x7x7x14, .i32⟩
  | 39 => ⟨S64x7x7x14, .i32⟩
  | 40 => ⟨S64x7x7x14, .i32⟩
  | 41 => ⟨S_, .i32⟩
  | 42 => ⟨S64x7x7x14, .i32⟩
  | 43 => ⟨S64x7x7x14, .i32⟩
  | 44 => ⟨S_, .i32⟩
  | 45 => ⟨S64x7x7x14, .i32⟩
  | 46 => ⟨S64x7x7x14, .i32⟩
  | 47 => ⟨S64x7x7x14, .i32⟩
  | 48 => ⟨S64x7x7x14, .i32⟩
  | 49 => ⟨S64x7x7x14, .i32⟩
  | 50 => ⟨S_, .i32⟩
  | 51 => ⟨S64x7x7x14, .i32⟩
  | 52 => ⟨S64x7x7x14, .i32⟩
  | 53 => ⟨S_, .i32⟩
  | 54 => ⟨S64x7x7x14, .i32⟩
  | 55 => ⟨S64x7x7x14, .i32⟩
  | 56 => ⟨S64x7x7x14, .i32⟩
  | 57 => ⟨S64x7x7x14, .i32⟩
  | 58 => ⟨S64x7x7x14, .i32⟩
  | 59 => ⟨S_, .i32⟩
  | 60 => ⟨S64x7x7x14, .i32⟩
  | 61 => ⟨S64x7x7x14, .i32⟩
  | 62 => ⟨S_, .i32⟩
  | 63 => ⟨S64x7x7x14, .i32⟩
  | 64 => ⟨S64x7x7x14, .i32⟩
  | 65 => ⟨S64x7x7x14, .i32⟩
  | 66 => ⟨S64x7x7x14, .i32⟩
  | 67 => ⟨S64x7x7x14, .i32⟩
  | 68 => ⟨S64x7x7x14, .i32⟩
  | 69 => ⟨S64x7x7x14, .i32⟩
  | 70 => ⟨S64x7x7x14, .i32⟩
  | 71 => ⟨S_, .i32⟩
  | 72 => ⟨S64x7x7x14, .i32⟩
  | 73 => ⟨S64x7x7x14, .i32⟩
  | 74 => ⟨S64x7x7x14, .i32⟩
  | 75 => ⟨S_, .i32⟩
  | 76 => ⟨S64x7x7x14, .i32⟩
  | 77 => ⟨S64x7x7x14, .i32⟩
  | 78 => ⟨S_, .i32⟩
  | 79 => ⟨S64x7x7x14, .i32⟩
  | 80 => ⟨S64x7x7x14, .i32⟩
  | 81 => ⟨S64x7x7x14, .i32⟩
  | 82 => ⟨S64x7x7x14, .i32⟩
  | 83 => ⟨S64x7x7x14, .i32⟩
  | 84 => ⟨S_, .i32⟩
  | 85 => ⟨S64x7x7x14, .i32⟩
  | 86 => ⟨S64x7x7x14, .i32⟩
  | 87 => ⟨S_, .i32⟩
  | 88 => ⟨S64x7x7x14, .i32⟩
  | 89 => ⟨S64x7x7x14, .i32⟩
  | 90 => ⟨S64x7x7x14, .i32⟩
  | 91 => ⟨S64x7x7x14, .i32⟩
  | 92 => ⟨S64x7x7x14, .i32⟩
  | 93 => ⟨S_, .i32⟩
  | 94 => ⟨S64x7x7x14, .i32⟩
  | 95 => ⟨S64x7x7x14, .i32⟩
  | 96 => ⟨S_, .i32⟩
  | 97 => ⟨S64x7x7x14, .i32⟩
  | 98 => ⟨S64x7x7x14, .i32⟩
  | 99 => ⟨S64x7x7x14, .i32⟩
  | 100 => ⟨S64x7x7x14, .i32⟩
  | 101 => ⟨S64x7x7x14, .i32⟩
  | 102 => ⟨S_, .i32⟩
  | 103 => ⟨S64x7x7x14, .i32⟩
  | 104 => ⟨S64x7x7x14, .i32⟩
  | 105 => ⟨S_, .i32⟩
  | 106 => ⟨S64x7x7x14, .i32⟩
  | 107 => ⟨S64x7x7x14, .i32⟩
  | 108 => ⟨S64x7x7x14, .i32⟩
  | 109 => ⟨S64x7x7x14, .i32⟩
  | 110 => ⟨S64x7x7x14, .i32⟩
  | 111 => ⟨S64x7x7x14, .i32⟩
  | 112 => ⟨S64x7x7x14, .i32⟩
  | 113 => ⟨S64x7x7x14, .i32⟩
  | 114 => ⟨S_, .i32⟩
  | 115 => ⟨S64x7x7x14, .i32⟩
  | 116 => ⟨S64x7x7x14, .i32⟩
  | 117 => ⟨S64x7x7x14, .i32⟩
  | 118 => ⟨S_, .i32⟩
  | 119 => ⟨S64x7x7x14, .i32⟩
  | 120 => ⟨S64x7x7x14, .i32⟩
  | 121 => ⟨S_, .i32⟩
  | 122 => ⟨S64x7x7x14, .i32⟩
  | 123 => ⟨S64x7x7x14, .i32⟩
  | 124 => ⟨S64x7x7x14, .i32⟩
  | 125 => ⟨S64x7x7x14, .i32⟩
  | 126 => ⟨S64x7x7x14, .i32⟩
  | 127 => ⟨S_, .i32⟩
  | _ => ⟨S64x7x1x45x45, .f32⟩

abbrev hbmTy0_2 (i : Nat) : BufTy := match i % 128 with
  | 0 => ⟨S64x7x7x14, .i32⟩
  | 1 => ⟨S64x7x7x14, .i32⟩
  | 2 => ⟨S_, .i32⟩
  | 3 => ⟨S64x7x7x14, .i32⟩
  | 4 => ⟨S64x7x7x14, .i32⟩
  | 5 => ⟨S64x7x7x14, .i32⟩
  | 6 => ⟨S64x7x7x14, .i32⟩
  | 7 => ⟨S64x7x7x14, .i32⟩
  | 8 => ⟨S_, .i32⟩
  | 9 => ⟨S64x7x7x14, .i32⟩
  | 10 => ⟨S64x7x7x14, .i32⟩
  | 11 => ⟨S_, .i32⟩
  | 12 => ⟨S64x7x7x14, .i32⟩
  | 13 => ⟨S64x7x7x14, .i32⟩
  | 14 => ⟨S64x7x7x14, .i32⟩
  | 15 => ⟨S64x7x7x14, .i32⟩
  | 16 => ⟨S64x7x7x14, .i32⟩
  | 17 => ⟨S_, .i32⟩
  | 18 => ⟨S64x7x7x14, .i32⟩
  | 19 => ⟨S64x7x7x14, .i32⟩
  | 20 => ⟨S_, .i32⟩
  | 21 => ⟨S64x7x7x14, .i32⟩
  | 22 => ⟨S64x7x7x14, .i32⟩
  | 23 => ⟨S64x7x7x14, .i32⟩
  | 24 => ⟨S64x7x7x14, .i32⟩
  | 25 => ⟨S64x7x7x14, .i32⟩
  | 26 => ⟨S64x7x7x14, .i32⟩
  | 27 => ⟨S64x7x7x14, .i32⟩
  | 28 => ⟨S64x7x7x14, .i32⟩
  | 29 => ⟨S_, .i32⟩
  | 30 => ⟨S64x7x7x14, .i32⟩
  | 31 => ⟨S64x7x7x14, .i32⟩
  | 32 => ⟨S64x7x7x14, .i32⟩
  | 33 => ⟨S_, .i32⟩
  | 34 => ⟨S64x7x7x14, .i32⟩
  | 35 => ⟨S64x7x7x14, .i32⟩
  | 36 => ⟨S_, .i32⟩
  | 37 => ⟨S64x7x7x14, .i32⟩
  | 38 => ⟨S64x7x7x14, .i32⟩
  | 39 => ⟨S64x7x7x14, .f32⟩
  | 40 => ⟨S_, .f32⟩
  | 41 => ⟨S64x7x7x14, .f32⟩
  | 42 => ⟨S64x7x7x14, .f32⟩
  | 43 => ⟨S1x1x1x1, .f32⟩
  | 44 => ⟨S64x7x7x14, .f32⟩
  | 45 => ⟨S64x7x7x14, .f32⟩
  | 46 => ⟨S64x7x7x14, .f32⟩
  | 47 => ⟨S64x7x7x14, .f32⟩
  | 48 => ⟨S64x7x7x14, .f32⟩
  | 49 => ⟨S64x7x7x14, .f32⟩
  | 50 => ⟨S64x7x7x14, .f32⟩
  | 51 => ⟨S64x7x7x14, .f32⟩
  | 52 => ⟨S64x7x7x14, .f32⟩
  | 53 => ⟨S64x7x7x14, .f32⟩
  | 54 => ⟨S448x98, .f32⟩
  | 55 => ⟨S64x7, .i32⟩
  | 56 => ⟨S448, .i32⟩
  | 57 => ⟨S448x1, .i32⟩
  | 58 => ⟨S7, .i32⟩
  | 59 => ⟨S1x7, .i32⟩
  | 60 => ⟨S64x7, .i32⟩
  | 61 => ⟨S448, .i32⟩
  | 62 => ⟨S448x1, .i32⟩
  | 63 => ⟨S448x14, .f32⟩
  | 64 => ⟨S448x14, .f32⟩
  | 65 => ⟨S64x7x14, .f32⟩
  | 66 => ⟨S64x7x14, .f32⟩
  | _ => ⟨S64x7x1x45x45, .f32⟩

abbrev hbmTy (i : Nat) : BufTy := match i / 128 with
  | 0 => hbmTy0_0 i
  | 1 => hbmTy0_1 i
  | 2 => hbmTy0_2 i
  | _ => ⟨S64x7x1x45x45, .f32⟩

abbrev bufTy : (tb : Table) → Fin (tcTables nBuf tb) → BufTy
  | .hbm, ⟨i, _⟩ => hbmTy i
  | .local _ .vmem, ⟨0, _⟩ => ⟨S8x1x45x45, .f32⟩
  | .local _ .vmem, ⟨1, _⟩ => ⟨S8x1x45x45, .f32⟩
  | .local _ .vmem, ⟨2, _⟩ => ⟨S9x32, .f32⟩
  | .local _ .vmem, ⟨3, _⟩ => ⟨S1x32, .f32⟩
  | .local _ .vmem, ⟨4, _⟩ => ⟨S64x288, .f32⟩
  | .local _ .vmem, ⟨5, _⟩ => ⟨S1x64, .f32⟩
  | .local _ .vmem, ⟨6, _⟩ => ⟨S8x7744, .f32⟩
  | .local _ .vmem, ⟨7, _⟩ => ⟨S8x7744, .f32⟩
  | .local _ .vmem, ⟨8, _⟩ => ⟨S448x7744, .f32⟩
  | .local _ .vmem, ⟨9, _⟩ => ⟨S256x7744, .f32⟩
  | .local _ .vmem, ⟨10, _⟩ => ⟨S256x7744, .f32⟩
  | .local _ .vmem, ⟨11, _⟩ => ⟨S1x1024, .f32⟩
  | .local _ .vmem, ⟨12, _⟩ => ⟨S14x1024, .f32⟩
  | .local _ .vmem, ⟨13, _⟩ => ⟨S1x14, .f32⟩
  | .local _ .vmem, ⟨14, _⟩ => ⟨S448x98, .f32⟩
  | .local _ .vmem, ⟨15, _⟩ => ⟨S448x1, .i32⟩
  | .local _ .vmem, ⟨16, _⟩ => ⟨S448x1, .i32⟩
  | .local _ .vmem, ⟨17, _⟩ => ⟨S448x14, .f32⟩
  | .local _ .vmem, ⟨18, _⟩ => ⟨S448x14, .f32⟩
  | .local _ .vmem, ⟨19, _⟩ => ⟨S448x1024, .f32⟩
  | _, _ => ⟨S64x7x1x45x45, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_cst_0 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_c : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_c_0 : Ref sig .tc := ⟨.hbm, 49, rfl⟩
abbrev main_call0_call0_v13 : Ref sig .tc := ⟨.hbm, 50, rfl⟩
abbrev main_call0_call0_v14 : Ref sig .tc := ⟨.hbm, 51, rfl⟩
abbrev main_call0_call0_c_1 : Ref sig .tc := ⟨.hbm, 52, rfl⟩
abbrev main_call0_call0_v15 : Ref sig .tc := ⟨.hbm, 53, rfl⟩
abbrev main_call0_call0_v16 : Ref sig .tc := ⟨.hbm, 54, rfl⟩
abbrev main_call0_call0_c_2 : Ref sig .tc := ⟨.hbm, 55, rfl⟩
abbrev main_call0_call0_v17 : Ref sig .tc := ⟨.hbm, 56, rfl⟩
abbrev main_call0_call0_v18 : Ref sig .tc := ⟨.hbm, 57, rfl⟩
abbrev main_call0_call0_v19 : Ref sig .tc := ⟨.hbm, 58, rfl⟩
abbrev main_call0_call0_v20 : Ref sig .tc := ⟨.hbm, 59, rfl⟩
abbrev main_call0_call0_v21 : Ref sig .tc := ⟨.hbm, 60, rfl⟩
abbrev main_call0_call0_c_3 : Ref sig .tc := ⟨.hbm, 61, rfl⟩
abbrev main_call0_call0_v22 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_call0_v0 : Ref sig .tc := ⟨.hbm, 66, rfl⟩
abbrev main_call0_call0_call0_c : Ref sig .tc := ⟨.hbm, 67, rfl⟩
abbrev main_call0_call0_call0_v1 : Ref sig .tc := ⟨.hbm, 68, rfl⟩
abbrev main_call0_call0_call0_v2 : Ref sig .tc := ⟨.hbm, 69, rfl⟩
abbrev main_call0_call0_call0_v3 : Ref sig .tc := ⟨.hbm, 70, rfl⟩
abbrev main_call0_call0_call0_v4 : Ref sig .tc := ⟨.hbm, 71, rfl⟩
abbrev main_call0_call0_call0_v5 : Ref sig .tc := ⟨.hbm, 72, rfl⟩
abbrev main_call0_call0_call0_v6 : Ref sig .tc := ⟨.hbm, 73, rfl⟩
abbrev main_call0_call0_call0_c_0 : Ref sig .tc := ⟨.hbm, 74, rfl⟩
abbrev main_call0_call0_call0_v7 : Ref sig .tc := ⟨.hbm, 75, rfl⟩
abbrev main_call0_call0_call0_v8 : Ref sig .tc := ⟨.hbm, 76, rfl⟩
abbrev main_call0_call0_call0_c_1 : Ref sig .tc := ⟨.hbm, 77, rfl⟩
abbrev main_call0_call0_call0_v9 : Ref sig .tc := ⟨.hbm, 78, rfl⟩
abbrev main_call0_call0_call0_v10 : Ref sig .tc := ⟨.hbm, 79, rfl⟩
abbrev main_call0_call0_call0_v11 : Ref sig .tc := ⟨.hbm, 80, rfl⟩
abbrev main_call0_call0_call0_v12 : Ref sig .tc := ⟨.hbm, 81, rfl⟩
abbrev main_call0_call0_call0_v13 : Ref sig .tc := ⟨.hbm, 82, rfl⟩
abbrev main_call0_call0_call0_c_2 : Ref sig .tc := ⟨.hbm, 83, rfl⟩
abbrev main_call0_call0_call0_v14 : Ref sig .tc := ⟨.hbm, 84, rfl⟩
abbrev main_call0_call0_call0_v15 : Ref sig .tc := ⟨.hbm, 85, rfl⟩
abbrev main_call0_call0_call0_c_3 : Ref sig .tc := ⟨.hbm, 86, rfl⟩
abbrev main_call0_call0_call0_v16 : Ref sig .tc := ⟨.hbm, 87, rfl⟩
abbrev main_call0_call0_call0_v17 : Ref sig .tc := ⟨.hbm, 88, rfl⟩
abbrev main_call0_call0_call0_v18 : Ref sig .tc := ⟨.hbm, 89, rfl⟩
abbrev main_call0_call0_call0_v19 : Ref sig .tc := ⟨.hbm, 90, rfl⟩
abbrev main_call0_call0_call0_v20 : Ref sig .tc := ⟨.hbm, 91, rfl⟩
abbrev main_call0_call0_call0_c_4 : Ref sig .tc := ⟨.hbm, 92, rfl⟩
abbrev main_call0_call0_call0_v21 : Ref sig .tc := ⟨.hbm, 93, rfl⟩
abbrev main_call0_call0_call0_v22 : Ref sig .tc := ⟨.hbm, 94, rfl⟩
abbrev main_call0_call0_call0_c_5 : Ref sig .tc := ⟨.hbm, 95, rfl⟩
abbrev main_call0_call0_call0_v23 : Ref sig .tc := ⟨.hbm, 96, rfl⟩
abbrev main_call0_call0_call0_v24 : Ref sig .tc := ⟨.hbm, 97, rfl⟩
abbrev main_call0_call0_call0_v25 : Ref sig .tc := ⟨.hbm, 98, rfl⟩
abbrev main_call0_call0_call0_v26 : Ref sig .tc := ⟨.hbm, 99, rfl⟩
abbrev main_call0_call0_call0_v27 : Ref sig .tc := ⟨.hbm, 100, rfl⟩
abbrev main_call0_call0_call0_c_6 : Ref sig .tc := ⟨.hbm, 101, rfl⟩
abbrev main_call0_call0_call0_v28 : Ref sig .tc := ⟨.hbm, 102, rfl⟩
abbrev main_call0_call0_call0_v29 : Ref sig .tc := ⟨.hbm, 103, rfl⟩
abbrev main_call0_call0_call0_c_7 : Ref sig .tc := ⟨.hbm, 104, rfl⟩
abbrev main_call0_call0_call0_v30 : Ref sig .tc := ⟨.hbm, 105, rfl⟩
abbrev main_call0_call0_call0_v31 : Ref sig .tc := ⟨.hbm, 106, rfl⟩
abbrev main_call0_call0_call0_v32 : Ref sig .tc := ⟨.hbm, 107, rfl⟩
abbrev main_call0_call0_call0_v33 : Ref sig .tc := ⟨.hbm, 108, rfl⟩
abbrev main_call0_call0_call0_v34 : Ref sig .tc := ⟨.hbm, 109, rfl⟩
abbrev main_call0_call0_call0_v35 : Ref sig .tc := ⟨.hbm, 110, rfl⟩
abbrev main_call0_call0_call0_v36 : Ref sig .tc := ⟨.hbm, 111, rfl⟩
abbrev main_call0_call0_call0_v37 : Ref sig .tc := ⟨.hbm, 112, rfl⟩
abbrev main_call0_call0_call0_c_8 : Ref sig .tc := ⟨.hbm, 113, rfl⟩
abbrev main_call0_call0_call0_v38 : Ref sig .tc := ⟨.hbm, 114, rfl⟩
abbrev main_call0_call0_call0_v39 : Ref sig .tc := ⟨.hbm, 115, rfl⟩
abbrev main_call0_call0_call0_v40 : Ref sig .tc := ⟨.hbm, 116, rfl⟩
abbrev main_call0_call0_call0_c_9 : Ref sig .tc := ⟨.hbm, 117, rfl⟩
abbrev main_call0_call0_call0_v41 : Ref sig .tc := ⟨.hbm, 118, rfl⟩
abbrev main_call0_call0_call0_v42 : Ref sig .tc := ⟨.hbm, 119, rfl⟩
abbrev main_call0_call0_call0_c_10 : Ref sig .tc := ⟨.hbm, 120, rfl⟩
abbrev main_call0_call0_call0_v43 : Ref sig .tc := ⟨.hbm, 121, rfl⟩
abbrev main_call0_call0_call0_v44 : Ref sig .tc := ⟨.hbm, 122, rfl⟩
abbrev main_call0_call0_call0_v45 : Ref sig .tc := ⟨.hbm, 123, rfl⟩
abbrev main_call0_call0_call0_v46 : Ref sig .tc := ⟨.hbm, 124, rfl⟩
abbrev main_call0_call0_call0_v47 : Ref sig .tc := ⟨.hbm, 125, rfl⟩
abbrev main_call0_call0_call0_c_11 : Ref sig .tc := ⟨.hbm, 126, rfl⟩
abbrev main_call0_call0_call0_v48 : Ref sig .tc := ⟨.hbm, 127, rfl⟩
abbrev main_call0_call0_call0_v49 : Ref sig .tc := ⟨.hbm, 128, rfl⟩
abbrev main_call0_call0_call0_c_12 : Ref sig .tc := ⟨.hbm, 129, rfl⟩
abbrev main_call0_call0_call0_v50 : Ref sig .tc := ⟨.hbm, 130, rfl⟩
abbrev main_call0_call0_call0_v51 : Ref sig .tc := ⟨.hbm, 131, rfl⟩
abbrev main_call0_call0_call0_v52 : Ref sig .tc := ⟨.hbm, 132, rfl⟩
abbrev main_call0_call0_call0_v53 : Ref sig .tc := ⟨.hbm, 133, rfl⟩
abbrev main_call0_call0_call0_v54 : Ref sig .tc := ⟨.hbm, 134, rfl⟩
abbrev main_call0_call0_call0_c_13 : Ref sig .tc := ⟨.hbm, 135, rfl⟩
abbrev main_call0_call0_call0_v55 : Ref sig .tc := ⟨.hbm, 136, rfl⟩
abbrev main_call0_call0_call0_v56 : Ref sig .tc := ⟨.hbm, 137, rfl⟩
abbrev main_call0_call0_call0_c_14 : Ref sig .tc := ⟨.hbm, 138, rfl⟩
abbrev main_call0_call0_call0_v57 : Ref sig .tc := ⟨.hbm, 139, rfl⟩
abbrev main_call0_call0_call0_v58 : Ref sig .tc := ⟨.hbm, 140, rfl⟩
abbrev main_call0_call0_call0_v59 : Ref sig .tc := ⟨.hbm, 141, rfl⟩
abbrev main_call0_call0_call0_v60 : Ref sig .tc := ⟨.hbm, 142, rfl⟩
abbrev main_call0_call0_call0_v61 : Ref sig .tc := ⟨.hbm, 143, rfl⟩
abbrev main_call0_call0_call0_c_15 : Ref sig .tc := ⟨.hbm, 144, rfl⟩
abbrev main_call0_call0_call0_v62 : Ref sig .tc := ⟨.hbm, 145, rfl⟩
abbrev main_call0_call0_call0_v63 : Ref sig .tc := ⟨.hbm, 146, rfl⟩
abbrev main_call0_call0_call0_c_16 : Ref sig .tc := ⟨.hbm, 147, rfl⟩
abbrev main_call0_call0_call0_v64 : Ref sig .tc := ⟨.hbm, 148, rfl⟩
abbrev main_call0_call0_call0_v65 : Ref sig .tc := ⟨.hbm, 149, rfl⟩
abbrev main_call0_call0_call0_v66 : Ref sig .tc := ⟨.hbm, 150, rfl⟩
abbrev main_call0_call0_call0_v67 : Ref sig .tc := ⟨.hbm, 151, rfl⟩
abbrev main_call0_call0_call0_v68 : Ref sig .tc := ⟨.hbm, 152, rfl⟩
abbrev main_call0_call0_call0_v69 : Ref sig .tc := ⟨.hbm, 153, rfl⟩
abbrev main_call0_call0_call0_v70 : Ref sig .tc := ⟨.hbm, 154, rfl⟩
abbrev main_call0_call0_call0_v71 : Ref sig .tc := ⟨.hbm, 155, rfl⟩
abbrev main_call0_call0_call0_c_17 : Ref sig .tc := ⟨.hbm, 156, rfl⟩
abbrev main_call0_call0_call0_v72 : Ref sig .tc := ⟨.hbm, 157, rfl⟩
abbrev main_call0_call0_call0_v73 : Ref sig .tc := ⟨.hbm, 158, rfl⟩
abbrev main_call0_call0_call0_v74 : Ref sig .tc := ⟨.hbm, 159, rfl⟩
abbrev main_call0_call0_call0_c_18 : Ref sig .tc := ⟨.hbm, 160, rfl⟩
abbrev main_call0_call0_call0_v75 : Ref sig .tc := ⟨.hbm, 161, rfl⟩
abbrev main_call0_call0_call0_v76 : Ref sig .tc := ⟨.hbm, 162, rfl⟩
abbrev main_call0_call0_call0_c_19 : Ref sig .tc := ⟨.hbm, 163, rfl⟩
abbrev main_call0_call0_call0_v77 : Ref sig .tc := ⟨.hbm, 164, rfl⟩
abbrev main_call0_call0_call0_v78 : Ref sig .tc := ⟨.hbm, 165, rfl⟩
abbrev main_call0_call0_call0_v79 : Ref sig .tc := ⟨.hbm, 166, rfl⟩
abbrev main_call0_call0_call0_v80 : Ref sig .tc := ⟨.hbm, 167, rfl⟩
abbrev main_call0_call0_call0_v81 : Ref sig .tc := ⟨.hbm, 168, rfl⟩
abbrev main_call0_call0_call0_c_20 : Ref sig .tc := ⟨.hbm, 169, rfl⟩
abbrev main_call0_call0_call0_v82 : Ref sig .tc := ⟨.hbm, 170, rfl⟩
abbrev main_call0_call0_call0_v83 : Ref sig .tc := ⟨.hbm, 171, rfl⟩
abbrev main_call0_call0_call0_c_21 : Ref sig .tc := ⟨.hbm, 172, rfl⟩
abbrev main_call0_call0_call0_v84 : Ref sig .tc := ⟨.hbm, 173, rfl⟩
abbrev main_call0_call0_call0_v85 : Ref sig .tc := ⟨.hbm, 174, rfl⟩
abbrev main_call0_call0_call0_v86 : Ref sig .tc := ⟨.hbm, 175, rfl⟩
abbrev main_call0_call0_call0_v87 : Ref sig .tc := ⟨.hbm, 176, rfl⟩
abbrev main_call0_call0_call0_v88 : Ref sig .tc := ⟨.hbm, 177, rfl⟩
abbrev main_call0_call0_call0_c_22 : Ref sig .tc := ⟨.hbm, 178, rfl⟩
abbrev main_call0_call0_call0_v89 : Ref sig .tc := ⟨.hbm, 179, rfl⟩
abbrev main_call0_call0_call0_v90 : Ref sig .tc := ⟨.hbm, 180, rfl⟩
abbrev main_call0_call0_call0_c_23 : Ref sig .tc := ⟨.hbm, 181, rfl⟩
abbrev main_call0_call0_call0_v91 : Ref sig .tc := ⟨.hbm, 182, rfl⟩
abbrev main_call0_call0_call0_v92 : Ref sig .tc := ⟨.hbm, 183, rfl⟩
abbrev main_call0_call0_call0_v93 : Ref sig .tc := ⟨.hbm, 184, rfl⟩
abbrev main_call0_call0_call0_v94 : Ref sig .tc := ⟨.hbm, 185, rfl⟩
abbrev main_call0_call0_call0_v95 : Ref sig .tc := ⟨.hbm, 186, rfl⟩
abbrev main_call0_call0_call0_c_24 : Ref sig .tc := ⟨.hbm, 187, rfl⟩
abbrev main_call0_call0_call0_v96 : Ref sig .tc := ⟨.hbm, 188, rfl⟩
abbrev main_call0_call0_call0_v97 : Ref sig .tc := ⟨.hbm, 189, rfl⟩
abbrev main_call0_call0_call0_c_25 : Ref sig .tc := ⟨.hbm, 190, rfl⟩
abbrev main_call0_call0_call0_v98 : Ref sig .tc := ⟨.hbm, 191, rfl⟩
abbrev main_call0_call0_call0_v99 : Ref sig .tc := ⟨.hbm, 192, rfl⟩
abbrev main_call0_call0_call0_v100 : Ref sig .tc := ⟨.hbm, 193, rfl⟩
abbrev main_call0_call0_call0_v101 : Ref sig .tc := ⟨.hbm, 194, rfl⟩
abbrev main_call0_call0_call0_v102 : Ref sig .tc := ⟨.hbm, 195, rfl⟩
abbrev main_call0_call0_call0_v103 : Ref sig .tc := ⟨.hbm, 196, rfl⟩
abbrev main_call0_call0_call0_v104 : Ref sig .tc := ⟨.hbm, 197, rfl⟩
abbrev main_call0_call0_call0_v105 : Ref sig .tc := ⟨.hbm, 198, rfl⟩
abbrev main_call0_call0_call0_c_26 : Ref sig .tc := ⟨.hbm, 199, rfl⟩
abbrev main_call0_call0_call0_v106 : Ref sig .tc := ⟨.hbm, 200, rfl⟩
abbrev main_call0_call0_call0_v107 : Ref sig .tc := ⟨.hbm, 201, rfl⟩
abbrev main_call0_call0_call0_v108 : Ref sig .tc := ⟨.hbm, 202, rfl⟩
abbrev main_call0_call0_call0_c_27 : Ref sig .tc := ⟨.hbm, 203, rfl⟩
abbrev main_call0_call0_call0_v109 : Ref sig .tc := ⟨.hbm, 204, rfl⟩
abbrev main_call0_call0_call0_v110 : Ref sig .tc := ⟨.hbm, 205, rfl⟩
abbrev main_call0_call0_call0_c_28 : Ref sig .tc := ⟨.hbm, 206, rfl⟩
abbrev main_call0_call0_call0_v111 : Ref sig .tc := ⟨.hbm, 207, rfl⟩
abbrev main_call0_call0_call0_v112 : Ref sig .tc := ⟨.hbm, 208, rfl⟩
abbrev main_call0_call0_call0_v113 : Ref sig .tc := ⟨.hbm, 209, rfl⟩
abbrev main_call0_call0_call0_v114 : Ref sig .tc := ⟨.hbm, 210, rfl⟩
abbrev main_call0_call0_call0_v115 : Ref sig .tc := ⟨.hbm, 211, rfl⟩
abbrev main_call0_call0_call0_c_29 : Ref sig .tc := ⟨.hbm, 212, rfl⟩
abbrev main_call0_call0_call0_v116 : Ref sig .tc := ⟨.hbm, 213, rfl⟩
abbrev main_call0_call0_call0_v117 : Ref sig .tc := ⟨.hbm, 214, rfl⟩
abbrev main_call0_call0_call0_c_30 : Ref sig .tc := ⟨.hbm, 215, rfl⟩
abbrev main_call0_call0_call0_v118 : Ref sig .tc := ⟨.hbm, 216, rfl⟩
abbrev main_call0_call0_call0_v119 : Ref sig .tc := ⟨.hbm, 217, rfl⟩
abbrev main_call0_call0_call0_v120 : Ref sig .tc := ⟨.hbm, 218, rfl⟩
abbrev main_call0_call0_call0_v121 : Ref sig .tc := ⟨.hbm, 219, rfl⟩
abbrev main_call0_call0_call0_v122 : Ref sig .tc := ⟨.hbm, 220, rfl⟩
abbrev main_call0_call0_call0_c_31 : Ref sig .tc := ⟨.hbm, 221, rfl⟩
abbrev main_call0_call0_call0_v123 : Ref sig .tc := ⟨.hbm, 222, rfl⟩
abbrev main_call0_call0_call0_v124 : Ref sig .tc := ⟨.hbm, 223, rfl⟩
abbrev main_call0_call0_call0_c_32 : Ref sig .tc := ⟨.hbm, 224, rfl⟩
abbrev main_call0_call0_call0_v125 : Ref sig .tc := ⟨.hbm, 225, rfl⟩
abbrev main_call0_call0_call0_v126 : Ref sig .tc := ⟨.hbm, 226, rfl⟩
abbrev main_call0_call0_call0_v127 : Ref sig .tc := ⟨.hbm, 227, rfl⟩
abbrev main_call0_call0_call0_v128 : Ref sig .tc := ⟨.hbm, 228, rfl⟩
abbrev main_call0_call0_call0_v129 : Ref sig .tc := ⟨.hbm, 229, rfl⟩
abbrev main_call0_call0_call0_c_33 : Ref sig .tc := ⟨.hbm, 230, rfl⟩
abbrev main_call0_call0_call0_v130 : Ref sig .tc := ⟨.hbm, 231, rfl⟩
abbrev main_call0_call0_call0_v131 : Ref sig .tc := ⟨.hbm, 232, rfl⟩
abbrev main_call0_call0_call0_c_34 : Ref sig .tc := ⟨.hbm, 233, rfl⟩
abbrev main_call0_call0_call0_v132 : Ref sig .tc := ⟨.hbm, 234, rfl⟩
abbrev main_call0_call0_call0_v133 : Ref sig .tc := ⟨.hbm, 235, rfl⟩
abbrev main_call0_call0_call0_v134 : Ref sig .tc := ⟨.hbm, 236, rfl⟩
abbrev main_call0_call0_call0_v135 : Ref sig .tc := ⟨.hbm, 237, rfl⟩
abbrev main_call0_call0_call0_v136 : Ref sig .tc := ⟨.hbm, 238, rfl⟩
abbrev main_call0_call0_call0_v137 : Ref sig .tc := ⟨.hbm, 239, rfl⟩
abbrev main_call0_call0_call0_v138 : Ref sig .tc := ⟨.hbm, 240, rfl⟩
abbrev main_call0_call0_call0_v139 : Ref sig .tc := ⟨.hbm, 241, rfl⟩
abbrev main_call0_call0_call0_c_35 : Ref sig .tc := ⟨.hbm, 242, rfl⟩
abbrev main_call0_call0_call0_v140 : Ref sig .tc := ⟨.hbm, 243, rfl⟩
abbrev main_call0_call0_call0_v141 : Ref sig .tc := ⟨.hbm, 244, rfl⟩
abbrev main_call0_call0_call0_v142 : Ref sig .tc := ⟨.hbm, 245, rfl⟩
abbrev main_call0_call0_call0_c_36 : Ref sig .tc := ⟨.hbm, 246, rfl⟩
abbrev main_call0_call0_call0_v143 : Ref sig .tc := ⟨.hbm, 247, rfl⟩
abbrev main_call0_call0_call0_v144 : Ref sig .tc := ⟨.hbm, 248, rfl⟩
abbrev main_call0_call0_call0_c_37 : Ref sig .tc := ⟨.hbm, 249, rfl⟩
abbrev main_call0_call0_call0_v145 : Ref sig .tc := ⟨.hbm, 250, rfl⟩
abbrev main_call0_call0_call0_v146 : Ref sig .tc := ⟨.hbm, 251, rfl⟩
abbrev main_call0_call0_call0_v147 : Ref sig .tc := ⟨.hbm, 252, rfl⟩
abbrev main_call0_call0_call0_v148 : Ref sig .tc := ⟨.hbm, 253, rfl⟩
abbrev main_call0_call0_call0_v149 : Ref sig .tc := ⟨.hbm, 254, rfl⟩
abbrev main_call0_call0_call0_c_38 : Ref sig .tc := ⟨.hbm, 255, rfl⟩
abbrev main_call0_call0_call0_v150 : Ref sig .tc := ⟨.hbm, 256, rfl⟩
abbrev main_call0_call0_call0_v151 : Ref sig .tc := ⟨.hbm, 257, rfl⟩
abbrev main_call0_call0_call0_c_39 : Ref sig .tc := ⟨.hbm, 258, rfl⟩
abbrev main_call0_call0_call0_v152 : Ref sig .tc := ⟨.hbm, 259, rfl⟩
abbrev main_call0_call0_call0_v153 : Ref sig .tc := ⟨.hbm, 260, rfl⟩
abbrev main_call0_call0_call0_v154 : Ref sig .tc := ⟨.hbm, 261, rfl⟩
abbrev main_call0_call0_call0_v155 : Ref sig .tc := ⟨.hbm, 262, rfl⟩
abbrev main_call0_call0_call0_v156 : Ref sig .tc := ⟨.hbm, 263, rfl⟩
abbrev main_call0_call0_call0_c_40 : Ref sig .tc := ⟨.hbm, 264, rfl⟩
abbrev main_call0_call0_call0_v157 : Ref sig .tc := ⟨.hbm, 265, rfl⟩
abbrev main_call0_call0_call0_v158 : Ref sig .tc := ⟨.hbm, 266, rfl⟩
abbrev main_call0_call0_call0_c_41 : Ref sig .tc := ⟨.hbm, 267, rfl⟩
abbrev main_call0_call0_call0_v159 : Ref sig .tc := ⟨.hbm, 268, rfl⟩
abbrev main_call0_call0_call0_v160 : Ref sig .tc := ⟨.hbm, 269, rfl⟩
abbrev main_call0_call0_call0_v161 : Ref sig .tc := ⟨.hbm, 270, rfl⟩
abbrev main_call0_call0_call0_v162 : Ref sig .tc := ⟨.hbm, 271, rfl⟩
abbrev main_call0_call0_call0_v163 : Ref sig .tc := ⟨.hbm, 272, rfl⟩
abbrev main_call0_call0_call0_c_42 : Ref sig .tc := ⟨.hbm, 273, rfl⟩
abbrev main_call0_call0_call0_v164 : Ref sig .tc := ⟨.hbm, 274, rfl⟩
abbrev main_call0_call0_call0_v165 : Ref sig .tc := ⟨.hbm, 275, rfl⟩
abbrev main_call0_call0_call0_c_43 : Ref sig .tc := ⟨.hbm, 276, rfl⟩
abbrev main_call0_call0_call0_v166 : Ref sig .tc := ⟨.hbm, 277, rfl⟩
abbrev main_call0_call0_call0_v167 : Ref sig .tc := ⟨.hbm, 278, rfl⟩
abbrev main_call0_call0_call0_v168 : Ref sig .tc := ⟨.hbm, 279, rfl⟩
abbrev main_call0_call0_call0_v169 : Ref sig .tc := ⟨.hbm, 280, rfl⟩
abbrev main_call0_call0_call0_v170 : Ref sig .tc := ⟨.hbm, 281, rfl⟩
abbrev main_call0_call0_v26_0 : Ref sig .tc := ⟨.hbm, 282, rfl⟩
abbrev main_call0_call0_call0_v172 : Ref sig .tc := ⟨.hbm, 283, rfl⟩
abbrev main_call0_call0_call0_v173 : Ref sig .tc := ⟨.hbm, 284, rfl⟩
abbrev main_call0_call0_call0_c_44 : Ref sig .tc := ⟨.hbm, 285, rfl⟩
abbrev main_call0_call0_call0_v174 : Ref sig .tc := ⟨.hbm, 286, rfl⟩
abbrev main_call0_call0_v26_1 : Ref sig .tc := ⟨.hbm, 287, rfl⟩
abbrev main_call0_call0_v27 : Ref sig .tc := ⟨.hbm, 288, rfl⟩
abbrev main_call0_call0_c_4 : Ref sig .tc := ⟨.hbm, 289, rfl⟩
abbrev main_call0_call0_v28 : Ref sig .tc := ⟨.hbm, 290, rfl⟩
abbrev main_call0_call0_v29 : Ref sig .tc := ⟨.hbm, 291, rfl⟩
abbrev main_call0_call0_c_5 : Ref sig .tc := ⟨.hbm, 292, rfl⟩
abbrev main_call0_call0_v30 : Ref sig .tc := ⟨.hbm, 293, rfl⟩
abbrev main_call0_call0_v31 : Ref sig .tc := ⟨.hbm, 294, rfl⟩
abbrev main_call0_call0_v32 : Ref sig .tc := ⟨.hbm, 295, rfl⟩
abbrev main_call0_call0_cst : Ref sig .tc := ⟨.hbm, 296, rfl⟩
abbrev main_call0_call0_v33 : Ref sig .tc := ⟨.hbm, 297, rfl⟩
abbrev main_call0_call0_v34 : Ref sig .tc := ⟨.hbm, 298, rfl⟩
abbrev main_call0_call0_v35 : Ref sig .tc := ⟨.hbm, 299, rfl⟩
abbrev main_call0_call0_v36 : Ref sig .tc := ⟨.hbm, 300, rfl⟩
abbrev main_call0_call0_v37 : Ref sig .tc := ⟨.hbm, 301, rfl⟩
abbrev main_call0_call0_v38 : Ref sig .tc := ⟨.hbm, 302, rfl⟩
abbrev main_call0_call0_v39 : Ref sig .tc := ⟨.hbm, 303, rfl⟩
abbrev main_call0_call0_v40 : Ref sig .tc := ⟨.hbm, 304, rfl⟩
abbrev main_call0_v0 : Ref sig .tc := ⟨.hbm, 305, rfl⟩
abbrev main_call0_v1 : Ref sig .tc := ⟨.hbm, 306, rfl⟩
abbrev main_call0_v2 : Ref sig .tc := ⟨.hbm, 307, rfl⟩
abbrev main_call0_v3 : Ref sig .tc := ⟨.hbm, 308, rfl⟩
abbrev main_v20 : Ref sig .tc := ⟨.hbm, 309, rfl⟩
abbrev main_v21 : Ref sig .tc := ⟨.hbm, 310, rfl⟩
abbrev main_v22 : Ref sig .tc := ⟨.hbm, 311, rfl⟩
abbrev main_v23 : Ref sig .tc := ⟨.hbm, 312, rfl⟩
abbrev main_v24 : Ref sig .tc := ⟨.hbm, 313, rfl⟩
abbrev main_v25 : Ref sig .tc := ⟨.hbm, 314, rfl⟩
abbrev main_v26 : Ref sig .tc := ⟨.hbm, 315, rfl⟩
abbrev main_v27 : Ref sig .tc := ⟨.hbm, 316, rfl⟩
abbrev main_v28 : Ref sig .tc := ⟨.hbm, 317, rfl⟩
abbrev main_v29 : Ref sig .tc := ⟨.hbm, 318, rfl⟩
abbrev main_v30_0 : Ref sig .tc := ⟨.hbm, 319, rfl⟩
abbrev main_v30_1 : Ref sig .tc := ⟨.hbm, 320, rfl⟩
abbrev main_v31 : Ref sig .tc := ⟨.hbm, 321, rfl⟩
abbrev main_v32 : Ref sig .tc := ⟨.hbm, 322, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18

abbrev nD : Nat := 1
abbrev τ : Topo := Topo.v7x

variable {F : FTy → Type} [FloatOps F]

abbrev grid0 : Pipeline.Grid := ⟨1, ![56], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x45x45 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x7744 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def k1_off1 (i : grid1.Coords) : Fin 2 → Nat :=
  let c0_3 : Index := 0#32
  let arg0 : BitVec 32 := BitVec.ofNat 32 (i 0).val
  let c256_i32 : BitVec 32 := 256#32
  let v5 : BitVec 32 := Scalar.muli arg0 c256_i32
  let v6 : Index := Scalar.indexCast v5
  ![0, v6.toNat]
def k1_cond1 (i : grid1.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32 : BitVec 32 := 0#32
  let v12 : BitVec 1 := Scalar.cmpi .ne v11 c0_i32
  v12

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S448x7744 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x7744 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S14x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x14 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S448x98 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S448x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S448x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S448x14 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S448x14 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S64x7x1x45x45 : Shape := ⟨5, ![64, 7, 1, 45, 45]⟩
abbrev S32x1x3x3 : Shape := ⟨4, ![32, 1, 3, 3]⟩
abbrev S32 : Shape := ⟨1, ![32]⟩
abbrev S64x32x3x3 : Shape := ⟨4, ![64, 32, 3, 3]⟩
abbrev S64 : Shape := ⟨1, ![64]⟩
abbrev S1024x7744 : Shape := ⟨2, ![1024, 7744]⟩
abbrev S1024 : Shape := ⟨1, ![1024]⟩
abbrev S14x1024 : Shape := ⟨2, ![14, 1024]⟩
abbrev S14 : Shape := ⟨1, ![14]⟩
abbrev S448x1x45x45 : Shape := ⟨4, ![448, 1, 45, 45]⟩
abbrev S_ : Shape := ⟨0, ![]⟩
abbrev S448x1x47x47 : Shape := ⟨4, ![448, 1, 47, 47]⟩
abbrev S448x1x1x45x45 : Shape := ⟨5, ![448, 1, 1, 45, 45]⟩
abbrev S448x1x9x45x45 : Shape := ⟨5, ![448, 1, 9, 45, 45]⟩
abbrev S448x9x45x45 : Shape := ⟨4, ![448, 9, 45, 45]⟩
abbrev S32x9 : Shape := ⟨2, ![32, 9]⟩
abbrev S32x448x45x45 : Shape := ⟨4, ![32, 448, 45, 45]⟩
abbrev S448x32x45x45 : Shape := ⟨4, ![448, 32, 45, 45]⟩
abbrev S1x32x1x1 : Shape := ⟨4, ![1, 32, 1, 1]⟩
abbrev S448x32x44x44 : Shape := ⟨4, ![448, 32, 44, 44]⟩
abbrev S448x32x22x2x22x2 : Shape := ⟨6, ![448, 32, 22, 2, 22, 2]⟩
abbrev S448x32x22x22 : Shape := ⟨4, ![448, 32, 22, 22]⟩
abbrev S448x32x24x24 : Shape := ⟨4, ![448, 32, 24, 24]⟩
abbrev S448x32x1x22x22 : Shape := ⟨5, ![448, 32, 1, 22, 22]⟩
abbrev S448x32x9x22x22 : Shape := ⟨5, ![448, 32, 9, 22, 22]⟩
abbrev S448x288x22x22 : Shape := ⟨4, ![448, 288, 22, 22]⟩
abbrev S64x288 : Shape := ⟨2, ![64, 288]⟩
abbrev S64x448x22x22 : Shape := ⟨4, ![64, 448, 22, 22]⟩
abbrev S448x64x22x22 : Shape := ⟨4, ![448, 64, 22, 22]⟩
abbrev S1x64x1x1 : Shape := ⟨4, ![1, 64, 1, 1]⟩
abbrev S448x64x11x2x11x2 : Shape := ⟨6, ![448, 64, 11, 2, 11, 2]⟩
abbrev S448x64x11x11 : Shape := ⟨4, ![448, 64, 11, 11]⟩
abbrev S448x7744 : Shape := ⟨2, ![448, 7744]⟩
abbrev S7744x1024 : Shape := ⟨2, ![7744, 1024]⟩
abbrev S448x1024 : Shape := ⟨2, ![448, 1024]⟩
abbrev S1x1024 : Shape := ⟨2, ![1, 1024]⟩
abbrev S1024x14 : Shape := ⟨2, ![1024, 14]⟩
abbrev S448x14 : Shape := ⟨2, ![448, 14]⟩
abbrev S1x14 : Shape := ⟨2, ![1, 14]⟩
abbrev S64x7x14 : Shape := ⟨3, ![64, 7, 14]⟩
abbrev S64x7 : Shape := ⟨2, ![64, 7]⟩
abbrev S64x7x1 : Shape := ⟨3, ![64, 7, 1]⟩
abbrev S1 : Shape := ⟨1, ![1]⟩
abbrev S2 : Shape := ⟨1, ![2]⟩
abbrev S64x7x1x14 : Shape := ⟨4, ![64, 7, 1, 14]⟩
abbrev S64x7x1x7x14 : Shape := ⟨5, ![64, 7, 1, 7, 14]⟩
abbrev S64x7x7x14 : Shape := ⟨4, ![64, 7, 7, 14]⟩
abbrev S1x1x1x1 : Shape := ⟨4, ![1, 1, 1, 1]⟩
abbrev S64x7x7 : Shape := ⟨3, ![64, 7, 7]⟩
abbrev S64x7x7x1 : Shape := ⟨4, ![64, 7, 7, 1]⟩
abbrev S1x1x1x14 : Shape := ⟨4, ![1, 1, 1, 14]⟩
abbrev S7 : Shape := ⟨1, ![7]⟩
abbrev S1x7 : Shape := ⟨2, ![1, 7]⟩
abbrev S64x1 : Shape := ⟨2, ![64, 1]⟩

abbrev nBuf : Space → Nat
  | .hbm => 435
  | .vmem => 0
  | .smem => 0
  | _ => 0

abbrev hbmTy0_0 (i : Nat) : BufTy := match i % 128 with
  | 0 => ⟨S64x7x1x45x45, .f32⟩
  | 1 => ⟨S32x1x3x3, .f32⟩
  | 2 => ⟨S32, .f32⟩
  | 3 => ⟨S64x32x3x3, .f32⟩
  | 4 => ⟨S64, .f32⟩
  | 5 => ⟨S1024x7744, .f32⟩
  | 6 => ⟨S1024, .f32⟩
  | 7 => ⟨S14x1024, .f32⟩
  | 8 => ⟨S14, .f32⟩
  | 9 => ⟨S64, .i32⟩
  | 10 => ⟨S448x1x45x45, .f32⟩
  | 11 => ⟨S_, .i32⟩
  | 12 => ⟨S_, .f32⟩
  | 13 => ⟨S448x1x47x47, .f32⟩
  | 14 => ⟨S448x1x45x45, .f32⟩
  | 15 => ⟨S448x1x45x45, .f32⟩
  | 16 => ⟨S448x1x45x45, .f32⟩
  | 17 => ⟨S448x1x45x45, .f32⟩
  | 18 => ⟨S448x1x45x45, .f32⟩
  | 19 => ⟨S448x1x45x45, .f32⟩
  | 20 => ⟨S448x1x45x45, .f32⟩
  | 21 => ⟨S448x1x45x45, .f32⟩
  | 22 => ⟨S448x1x45x45, .f32⟩
  | 23 => ⟨S448x1x1x45x45, .f32⟩
  | 24 => ⟨S448x1x1x45x45, .f32⟩
  | 25 => ⟨S448x1x1x45x45, .f32⟩
  | 26 => ⟨S448x1x1x45x45, .f32⟩
  | 27 => ⟨S448x1x1x45x45, .f32⟩
  | 28 => ⟨S448x1x1x45x45, .f32⟩
  | 29 => ⟨S448x1x1x45x45, .f32⟩
  | 30 => ⟨S448x1x1x45x45, .f32⟩
  | 31 => ⟨S448x1x1x45x45, .f32⟩
  | 32 => ⟨S448x1x9x45x45, .f32⟩
  | 33 => ⟨S448x9x45x45, .f32⟩
  | 34 => ⟨S32x9, .f32⟩
  | 35 => ⟨S32x448x45x45, .f32⟩
  | 36 => ⟨S448x32x45x45, .f32⟩
  | 37 => ⟨S1x32x1x1, .f32⟩
  | 38 => ⟨S448x32x45x45, .f32⟩
  | 39 => ⟨S448x32x45x45, .f32⟩
  | 40 => ⟨S_, .f32⟩
  | 41 => ⟨S448x32x45x45, .f32⟩
  | 42 => ⟨S448x32x45x45, .f32⟩
  | 43 => ⟨S448x32x44x44, .f32⟩
  | 44 => ⟨S448x32x22x2x22x2, .f32⟩
  | 45 => ⟨S_, .f32⟩
  | 46 => ⟨S448x32x22x22, .f32⟩
  | 47 => ⟨S_, .i32⟩
  | 48 => ⟨S_, .f32⟩
  | 49 => ⟨S448x32x24x24, .f32⟩
  | 50 => ⟨S448x32x22x22, .f32⟩
  | 51 => ⟨S448x32x22x22, .f32⟩
  | 52 => ⟨S448x32x22x22, .f32⟩
  | 53 => ⟨S448x32x22x22, .f32⟩
  | 54 => ⟨S448x32x22x22, .f32⟩
  | 55 => ⟨S448x32x22x22, .f32⟩
  | 56 => ⟨S448x32x22x22, .f32⟩
  | 57 => ⟨S448x32x22x22, .f32⟩
  | 58 => ⟨S448x32x22x22, .f32⟩
  | 59 => ⟨S448x32x1x22x22, .f32⟩
  | 60 => ⟨S448x32x1x22x22, .f32⟩
  | 61 => ⟨S448x32x1x22x22, .f32⟩
  | 62 => ⟨S448x32x1x22x22, .f32⟩
  | 63 => ⟨S448x32x1x22x22, .f32⟩
  | 64 => ⟨S448x32x1x22x22, .f32⟩
  | 65 => ⟨S448x32x1x22x22, .f32⟩
  | 66 => ⟨S448x32x1x22x22, .f32⟩
  | 67 => ⟨S448x32x1x22x22, .f32⟩
  | 68 => ⟨S448x32x9x22x22, .f32⟩
  | 69 => ⟨S448x288x22x22, .f32⟩
  | 70 => ⟨S64x288, .f32⟩
  | 71 => ⟨S64x448x22x22, .f32⟩
  | 72 => ⟨S448x64x22x22, .f32⟩
  | 73 => ⟨S1x64x1x1, .f32⟩
  | 74 => ⟨S448x64x22x22, .f32⟩
  | 75 => ⟨S448x64x22x22, .f32⟩
  | 76 => ⟨S_, .f32⟩
  | 77 => ⟨S448x64x22x22, .f32⟩
  | 78 => ⟨S448x64x22x22, .f32⟩
  | 79 => ⟨S448x64x11x2x11x2, .f32⟩
  | 80 => ⟨S_, .f32⟩
  | 81 => ⟨S448x64x11x11, .f32⟩
  | 82 => ⟨S448x7744, .f32⟩
  | 83 => ⟨S7744x1024, .f32⟩
  | 84 => ⟨S448x1024, .f32⟩
  | 85 => ⟨S1x1024, .f32⟩
  | 86 => ⟨S448x1024, .f32⟩
  | 87 => ⟨S448x1024, .f32⟩
  | 88 => ⟨S_, .f32⟩
  | 89 => ⟨S448x1024, .f32⟩
  | 90 => ⟨S448x1024, .f32⟩
  | 91 => ⟨S1024x14, .f32⟩
  | 92 => ⟨S448x14, .f32⟩
  | 93 => ⟨S1x14, .f32⟩
  | 94 => ⟨S448x14, .f32⟩
  | 95 => ⟨S448x14, .f32⟩
  | 96 => ⟨S64x7x14, .f32⟩
  | 97 => ⟨S_, .f32⟩
  | 98 => ⟨S64x7, .f32⟩
  | 99 => ⟨S_, .f32⟩
  | 100 => ⟨S64x7, .f32⟩
  | 101 => ⟨S64x7, .f32⟩
  | 102 => ⟨S64x7x1, .f32⟩
  | 103 => ⟨S64x7x14, .f32⟩
  | 104 => ⟨S64x7x14, .f32⟩
  | 105 => ⟨S64x7x14, .f32⟩
  | 106 => ⟨S_, .f32⟩
  | 107 => ⟨S64x7, .f32⟩
  | 108 => ⟨S64x7x1, .f32⟩
  | 109 => ⟨S64x7x14, .f32⟩
  | 110 => ⟨S64x7x14, .f32⟩
  | 111 => ⟨S_, .f32⟩
  | 112 => ⟨S_, .f32⟩
  | 113 => ⟨S_, .f32⟩
  | 114 => ⟨S64x7x14, .f32⟩
  | 115 => ⟨S64x7x14, .f32⟩
  | 116 => ⟨S_, .f32⟩
  | 117 => ⟨S64x7x14, .f32⟩
  | 118 => ⟨S64x7x14, .f32⟩
  | 119 => ⟨S64x7x14, .f32⟩
  | 120 => ⟨S_, .i32⟩
  | 121 => ⟨S_, .i32⟩
  | 122 => ⟨S_, .i32⟩
  | 123 => ⟨S_, .i32⟩
  | 124 => ⟨S1, .i32⟩
  | 125 => ⟨S_, .i32⟩
  | 126 => ⟨S_, .i32⟩
  | 127 => ⟨S_, .i32⟩
  | _ => ⟨S64x7x1x45x45, .f32⟩

abbrev hbmTy0_1 (i : Nat) : BufTy := match i % 128 with
  | 0 => ⟨S1, .i32⟩
  | 1 => ⟨S2, .i32⟩
  | 2 => ⟨S64x7x1x14, .f32⟩
  | 3 => ⟨S64x7x1x7x14, .f32⟩
  | 4 => ⟨S64x7x7x14, .f32⟩
  | 5 => ⟨S_, .f32⟩
  | 6 => ⟨S_, .f32⟩
  | 7 => ⟨S_, .f32⟩
  | 8 => ⟨S1x1x1x1, .f32⟩
  | 9 => ⟨S1x1x1x1, .f32⟩
  | 10 => ⟨S1, .i32⟩
  | 11 => ⟨S_, .i32⟩
  | 12 => ⟨S1, .i32⟩
  | 13 => ⟨S_, .i32⟩
  | 14 => ⟨S64x7x7x14, .i64⟩
  | 15 => ⟨S64x7x7x14, .i64⟩
  | 16 => ⟨S64x7x7x14, .i64⟩
  | 17 => ⟨S64x7x7x14, .i64⟩
  | 18 => ⟨S_, .i64⟩
  | 19 => ⟨S64x7x7x14, .i64⟩
  | 20 => ⟨S64x7x7x14, .i64⟩
  | 21 => ⟨S_, .i64⟩
  | 22 => ⟨S64x7x7x14, .i64⟩
  | 23 => ⟨S64x7x7x14, .i64⟩
  | 24 => ⟨S_, .i64⟩
  | 25 => ⟨S64x7x7x14, .i64⟩
  | 26 => ⟨S64x7x7x14, .i64⟩
  | 27 => ⟨S_, .i64⟩
  | 28 => ⟨S64x7x7x14, .i64⟩
  | 29 => ⟨S64x7x7x14, .i64⟩
  | 30 => ⟨S64x7x7x14, .i64⟩
  | 31 => ⟨S64x7x7x14, .i64⟩
  | 32 => ⟨S64x7x7x14, .i64⟩
  | 33 => ⟨S_, .i64⟩
  | 34 => ⟨S64x7x7x14, .i64⟩
  | 35 => ⟨S64x7x7x14, .i64⟩
  | 36 => ⟨S64x7x7x14, .i32⟩
  | 37 => ⟨S64x7x7x14, .i32⟩
  | 38 => ⟨S_, .i32⟩
  | 39 => ⟨S_, .i32⟩
  | 40 => ⟨S_, .i32⟩
  | 41 => ⟨S64x7x7x14, .i32⟩
  | 42 => ⟨S64x7x7x14, .i32⟩
  | 43 => ⟨S64x7x7x14, .i32⟩
  | 44 => ⟨S64x7x7x14, .i32⟩
  | 45 => ⟨S64x7x7x14, .i32⟩
  | 46 => ⟨S_, .i32⟩
  | 47 => ⟨S64x7x7x14, .i32⟩
  | 48 => ⟨S64x7x7x14, .i32⟩
  | 49 => ⟨S_, .i32⟩
  | 50 => ⟨S64x7x7x14, .i32⟩
  | 51 => ⟨S64x7x7x14, .i32⟩
  | 52 => ⟨S64x7x7x14, .i32⟩
  | 53 => ⟨S64x7x7x14, .i32⟩
  | 54 => ⟨S64x7x7x14, .i32⟩
  | 55 => ⟨S_, .i32⟩
  | 56 => ⟨S64x7x7x14, .i32⟩
  | 57 => ⟨S64x7x7x14, .i32⟩
  | 58 => ⟨S_, .i32⟩
  | 59 => ⟨S64x7x7x14, .i32⟩
  | 60 => ⟨S64x7x7x14, .i32⟩
  | 61 => ⟨S64x7x7x14, .i32⟩
  | 62 => ⟨S64x7x7x14, .i32⟩
  | 63 => ⟨S64x7x7x14, .i32⟩
  | 64 => ⟨S_, .i32⟩
  | 65 => ⟨S64x7x7x14, .i32⟩
  | 66 => ⟨S64x7x7x14, .i32⟩
  | 67 => ⟨S_, .i32⟩
  | 68 => ⟨S64x7x7x14, .i32⟩
  | 69 => ⟨S64x7x7x14, .i32⟩
  | 70 => ⟨S64x7x7x14, .i32⟩
  | 71 => ⟨S64x7x7x14, .i32⟩
  | 72 => ⟨S64x7x7x14, .i32⟩
  | 73 => ⟨S_, .i32⟩
  | 74 => ⟨S64x7x7x14, .i32⟩
  | 75 => ⟨S64x7x7x14, .i32⟩
  | 76 => ⟨S_, .i32⟩
  | 77 => ⟨S64x7x7x14, .i32⟩
  | 78 => ⟨S64x7x7x14, .i32⟩
  | 79 => ⟨S64x7x7x14, .i32⟩
  | 80 => ⟨S64x7x7x14, .i32⟩
  | 81 => ⟨S64x7x7x14, .i32⟩
  | 82 => ⟨S64x7x7x14, .i32⟩
  | 83 => ⟨S64x7x7x14, .i32⟩
  | 84 => ⟨S64x7x7x14, .i32⟩
  | 85 => ⟨S_, .i32⟩
  | 86 => ⟨S64x7x7x14, .i32⟩
  | 87 => ⟨S64x7x7x14, .i32⟩
  | 88 => ⟨S64x7x7x14, .i32⟩
  | 89 => ⟨S_, .i32⟩
  | 90 => ⟨S64x7x7x14, .i32⟩
  | 91 => ⟨S64x7x7x14, .i32⟩
  | 92 => ⟨S_, .i32⟩
  | 93 => ⟨S64x7x7x14, .i32⟩
  | 94 => ⟨S64x7x7x14, .i32⟩
  | 95 => ⟨S64x7x7x14, .i32⟩
  | 96 => ⟨S64x7x7x14, .i32⟩
  | 97 => ⟨S64x7x7x14, .i32⟩
  | 98 => ⟨S_, .i32⟩
  | 99 => ⟨S64x7x7x14, .i32⟩
  | 100 => ⟨S64x7x7x14, .i32⟩
  | 101 => ⟨S_, .i32⟩
  | 102 => ⟨S64x7x7x14, .i32⟩
  | 103 => ⟨S64x7x7x14, .i32⟩
  | 104 => ⟨S64x7x7x14, .i32⟩
  | 105 => ⟨S64x7x7x14, .i32⟩
  | 106 => ⟨S64x7x7x14, .i32⟩
  | 107 => ⟨S_, .i32⟩
  | 108 => ⟨S64x7x7x14, .i32⟩
  | 109 => ⟨S64x7x7x14, .i32⟩
  | 110 => ⟨S_, .i32⟩
  | 111 => ⟨S64x7x7x14, .i32⟩
  | 112 => ⟨S64x7x7x14, .i32⟩
  | 113 => ⟨S64x7x7x14, .i32⟩
  | 114 => ⟨S64x7x7x14, .i32⟩
  | 115 => ⟨S64x7x7x14, .i32⟩
  | 116 => ⟨S_, .i32⟩
  | 117 => ⟨S64x7x7x14, .i32⟩
  | 118 => ⟨S64x7x7x14, .i32⟩
  | 119 => ⟨S_, .i32⟩
  | 120 => ⟨S64x7x7x14, .i32⟩
  | 121 => ⟨S64x7x7x14, .i32⟩
  | 122 => ⟨S64x7x7x14, .i32⟩
  | 123 => ⟨S64x7x7x14, .i32⟩
  | 124 => ⟨S64x7x7x14, .i32⟩
  | 125 => ⟨S64x7x7x14, .i32⟩
  | 126 => ⟨S64x7x7x14, .i32⟩
  | 127 => ⟨S64x7x7x14, .i32⟩
  | _ => ⟨S64x7x1x45x45, .f32⟩

abbrev hbmTy0_2 (i : Nat) : BufTy := match i % 128 with
  | 0 => ⟨S_, .i32⟩
  | 1 => ⟨S64x7x7x14, .i32⟩
  | 2 => ⟨S64x7x7x14, .i32⟩
  | 3 => ⟨S64x7x7x14, .i32⟩
  | 4 => ⟨S_, .i32⟩
  | 5 => ⟨S64x7x7x14, .i32⟩
  | 6 => ⟨S64x7x7x14, .i32⟩
  | 7 => ⟨S_, .i32⟩
  | 8 => ⟨S64x7x7x14, .i32⟩
  | 9 => ⟨S64x7x7x14, .i32⟩
  | 10 => ⟨S64x7x7x14, .i32⟩
  | 11 => ⟨S64x7x7x14, .i32⟩
  | 12 => ⟨S64x7x7x14, .i32⟩
  | 13 => ⟨S_, .i32⟩
  | 14 => ⟨S64x7x7x14, .i32⟩
  | 15 => ⟨S64x7x7x14, .i32⟩
  | 16 => ⟨S_, .i32⟩
  | 17 => ⟨S64x7x7x14, .i32⟩
  | 18 => ⟨S64x7x7x14, .i32⟩
  | 19 => ⟨S64x7x7x14, .i32⟩
  | 20 => ⟨S64x7x7x14, .i32⟩
  | 21 => ⟨S64x7x7x14, .i32⟩
  | 22 => ⟨S_, .i32⟩
  | 23 => ⟨S64x7x7x14, .i32⟩
  | 24 => ⟨S64x7x7x14, .i32⟩
  | 25 => ⟨S_, .i32⟩
  | 26 => ⟨S64x7x7x14, .i32⟩
  | 27 => ⟨S64x7x7x14, .i32⟩
  | 28 => ⟨S64x7x7x14, .i32⟩
  | 29 => ⟨S64x7x7x14, .i32⟩
  | 30 => ⟨S64x7x7x14, .i32⟩
  | 31 => ⟨S_, .i32⟩
  | 32 => ⟨S64x7x7x14, .i32⟩
  | 33 => ⟨S64x7x7x14, .i32⟩
  | 34 => ⟨S_, .i32⟩
  | 35 => ⟨S64x7x7x14, .i32⟩
  | 36 => ⟨S64x7x7x14, .i32⟩
  | 37 => ⟨S64x7x7x14, .i32⟩
  | 38 => ⟨S64x7x7x14, .i32⟩
  | 39 => ⟨S64x7x7x14, .i32⟩
  | 40 => ⟨S64x7x7x14, .i32⟩
  | 41 => ⟨S64x7x7x14, .i32⟩
  | 42 => ⟨S64x7x7x14, .i32⟩
  | 43 => ⟨S_, .i32⟩
  | 44 => ⟨S64x7x7x14, .i32⟩
  | 45 => ⟨S64x7x7x14, .i32⟩
  | 46 => ⟨S64x7x7x14, .i32⟩
  | 47 => ⟨S_, .i32⟩
  | 48 => ⟨S64x7x7x14, .i32⟩
  | 49 => ⟨S64x7x7x14, .i32⟩
  | 50 => ⟨S_, .i32⟩
  | 51 => ⟨S64x7x7x14, .i32⟩
  | 52 => ⟨S64x7x7x14, .i32⟩
  | 53 => ⟨S64x7x7x14, .i32⟩
  | 54 => ⟨S64x7x7x14, .i32⟩
  | 55 => ⟨S64x7x7x14, .i32⟩
  | 56 => ⟨S_, .i32⟩
  | 57 => ⟨S64x7x7x14, .i32⟩
  | 58 => ⟨S64x7x7x14, .i32⟩
  | 59 => ⟨S_, .i32⟩
  | 60 => ⟨S64x7x7x14, .i32⟩
  | 61 => ⟨S64x7x7x14, .i32⟩
  | 62 => ⟨S64x7x7x14, .i32⟩
  | 63 => ⟨S64x7x7x14, .i32⟩
  | 64 => ⟨S64x7x7x14, .i32⟩
  | 65 => ⟨S_, .i32⟩
  | 66 => ⟨S64x7x7x14, .i32⟩
  | 67 => ⟨S64x7x7x14, .i32⟩
  | 68 => ⟨S_, .i32⟩
  | 69 => ⟨S64x7x7x14, .i32⟩
  | 70 => ⟨S64x7x7x14, .i32⟩
  | 71 => ⟨S64x7x7x14, .i32⟩
  | 72 => ⟨S64x7x7x14, .i32⟩
  | 73 => ⟨S64x7x7x14, .i32⟩
  | 74 => ⟨S_, .i32⟩
  | 75 => ⟨S64x7x7x14, .i32⟩
  | 76 => ⟨S64x7x7x14, .i32⟩
  | 77 => ⟨S_, .i32⟩
  | 78 => ⟨S64x7x7x14, .i32⟩
  | 79 => ⟨S64x7x7x14, .i32⟩
  | 80 => ⟨S64x7x7x14, .i32⟩
  | 81 => ⟨S64x7x7x14, .i32⟩
  | 82 => ⟨S64x7x7x14, .i32⟩
  | 83 => ⟨S64x7x7x14, .i32⟩
  | 84 => ⟨S64x7x7x14, .i32⟩
  | 85 => ⟨S64x7x7x14, .i32⟩
  | 86 => ⟨S_, .i32⟩
  | 87 => ⟨S64x7x7x14, .i32⟩
  | 88 => ⟨S64x7x7x14, .i32⟩
  | 89 => ⟨S64x7x7x14, .i32⟩
  | 90 => ⟨S_, .i32⟩
  | 91 => ⟨S64x7x7x14, .i32⟩
  | 92 => ⟨S64x7x7x14, .i32⟩
  | 93 => ⟨S_, .i32⟩
  | 94 => ⟨S64x7x7x14, .i32⟩
  | 95 => ⟨S64x7x7x14, .i32⟩
  | 96 => ⟨S64x7x7x14, .i32⟩
  | 97 => ⟨S64x7x7x14, .i32⟩
  | 98 => ⟨S64x7x7x14, .i32⟩
  | 99 => ⟨S_, .i32⟩
  | 100 => ⟨S64x7x7x14, .i32⟩
  | 101 => ⟨S64x7x7x14, .i32⟩
  | 102 => ⟨S_, .i32⟩
  | 103 => ⟨S64x7x7x14, .i32⟩
  | 104 => ⟨S64x7x7x14, .i32⟩
  | 105 => ⟨S64x7x7x14, .i32⟩
  | 106 => ⟨S64x7x7x14, .i32⟩
  | 107 => ⟨S64x7x7x14, .i32⟩
  | 108 => ⟨S_, .i32⟩
  | 109 => ⟨S64x7x7x14, .i32⟩
  | 110 => ⟨S64x7x7x14, .i32⟩
  | 111 => ⟨S_, .i32⟩
  | 112 => ⟨S64x7x7x14, .i32⟩
  | 113 => ⟨S64x7x7x14, .i32⟩
  | 114 => ⟨S64x7x7x14, .i32⟩
  | 115 => ⟨S64x7x7x14, .i32⟩
  | 116 => ⟨S64x7x7x14, .i32⟩
  | 117 => ⟨S_, .i32⟩
  | 118 => ⟨S64x7x7x14, .i32⟩
  | 119 => ⟨S64x7x7x14, .i32⟩
  | 120 => ⟨S_, .i32⟩
  | 121 => ⟨S64x7x7x14, .i32⟩
  | 122 => ⟨S64x7x7x14, .i32⟩
  | 123 => ⟨S64x7x7x14, .i32⟩
  | 124 => ⟨S64x7x7x14, .i32⟩
  | 125 => ⟨S64x7x7x14, .i32⟩
  | 126 => ⟨S64x7x7x14, .i32⟩
  | 127 => ⟨S64x7x7x14, .i32⟩
  | _ => ⟨S64x7x1x45x45, .f32⟩

abbrev hbmTy0_3 (i : Nat) : BufTy := match i % 128 with
  | 0 => ⟨S64x7x7x14, .i32⟩
  | 1 => ⟨S_, .i32⟩
  | 2 => ⟨S64x7x7x14, .i32⟩
  | 3 => ⟨S64x7x7x14, .i32⟩
  | 4 => ⟨S64x7x7x14, .i32⟩
  | 5 => ⟨S_, .i32⟩
  | 6 => ⟨S64x7x7x14, .i32⟩
  | 7 => ⟨S64x7x7x14, .i32⟩
  | 8 => ⟨S_, .i32⟩
  | 9 => ⟨S64x7x7x14, .i32⟩
  | 10 => ⟨S64x7x7x14, .i32⟩
  | 11 => ⟨S64x7x7x14, .f32⟩
  | 12 => ⟨S_, .f32⟩
  | 13 => ⟨S64x7x7x14, .f32⟩
  | 14 => ⟨S64x7x7x14, .f32⟩
  | 15 => ⟨S1x1x1x1, .f32⟩
  | 16 => ⟨S64x7x7x14, .f32⟩
  | 17 => ⟨S64x7x7x14, .f32⟩
  | 18 => ⟨S64x7x7x14, .f32⟩
  | 19 => ⟨S64x7x7x14, .f32⟩
  | 20 => ⟨S64x7x7x14, .f32⟩
  | 21 => ⟨S64x7x7x14, .f32⟩
  | 22 => ⟨S64x7x7x14, .f32⟩
  | 23 => ⟨S64x7x7x14, .f32⟩
  | 24 => ⟨S64x7x7x14, .f32⟩
  | 25 => ⟨S64x7x7x14, .f32⟩
  | 26 => ⟨S64x7x7x14, .f32⟩
  | 27 => ⟨S64x7x7x14, .i32⟩
  | 28 => ⟨S_, .f32⟩
  | 29 => ⟨S_, .i32⟩
  | 30 => ⟨S64x7x7, .f32⟩
  | 31 => ⟨S64x7x7, .i32⟩
  | 32 => ⟨S64x7x7x1, .i32⟩
  | 33 => ⟨S1x1x1x14, .i32⟩
  | 34 => ⟨S64x7x7x14, .i32⟩
  | 35 => ⟨S64x7x7x14, .i32⟩
  | 36 => ⟨S64x7x7x14, .i1⟩
  | 37 => ⟨S64x7x7x14, .f32⟩
  | 38 => ⟨S_, .f32⟩
  | 39 => ⟨S64x7x14, .f32⟩
  | 40 => ⟨S7, .i32⟩
  | 41 => ⟨S1x7, .i32⟩
  | 42 => ⟨S64x1, .i32⟩
  | 43 => ⟨S64x7, .i32⟩
  | 44 => ⟨S64x7, .i32⟩
  | 45 => ⟨S64x7, .i1⟩
  | 46 => ⟨S64x7, .f32⟩
  | 47 => ⟨S64x7x14, .f32⟩
  | 48 => ⟨S64x7x1, .f32⟩
  | 49 => ⟨S64x7x14, .f32⟩
  | 50 => ⟨S64x7x14, .f32⟩
  | _ => ⟨S64x7x1x45x45, .f32⟩

abbrev hbmTy (i : Nat) : BufTy := match i / 128 with
  | 0 => hbmTy0_0 i
  | 1 => hbmTy0_1 i
  | 2 => hbmTy0_2 i
  | 3 => hbmTy0_3 i
  | _ => ⟨S64x7x1x45x45, .f32⟩

abbrev bufTy : (tb : Table) → Fin (tcTables nBuf tb) → BufTy
  | .hbm, ⟨i, _⟩ => hbmTy i
  | _, _ => ⟨S64x7x1x45x45, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call1_cst : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_c_0 : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call3_cst : Ref sig .tc := ⟨.hbm, 76, rfl⟩
abbrev main_call3_v0 : Ref sig .tc := ⟨.hbm, 77, rfl⟩
abbrev main_v59 : Ref sig .tc := ⟨.hbm, 78, rfl⟩
abbrev main_v60 : Ref sig .tc := ⟨.hbm, 79, rfl⟩
abbrev main_cst_1 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call4_cst : Ref sig .tc := ⟨.hbm, 88, rfl⟩
abbrev main_call4_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_2 : Ref sig .tc := ⟨.hbm, 97, rfl⟩
abbrev main_v75 : Ref sig .tc := ⟨.hbm, 98, rfl⟩
abbrev main_cst_3 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_4 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_5 : Ref sig .tc := ⟨.hbm, 111, rfl⟩
abbrev main_cst_6 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v86 : Ref sig .tc := ⟨.hbm, 118, rfl⟩
abbrev main_v87 : Ref sig .tc := ⟨.hbm, 119, rfl⟩
abbrev main_c_7 : Ref sig .tc := ⟨.hbm, 120, rfl⟩
abbrev main_c_8 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_9 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call6_cst : Ref sig .tc := ⟨.hbm, 133, rfl⟩
abbrev main_call6_cst_0 : Ref sig .tc := ⟨.hbm, 134, rfl⟩
abbrev main_call6_call0_v0 : Ref sig .tc := ⟨.hbm, 135, rfl⟩
abbrev main_call6_call0_v1 : Ref sig .tc := ⟨.hbm, 136, rfl⟩
abbrev main_call6_call0_v2 : Ref sig .tc := ⟨.hbm, 137, rfl⟩
abbrev main_call6_call0_v3 : Ref sig .tc := ⟨.hbm, 138, rfl⟩
abbrev main_call6_call0_v4 : Ref sig .tc := ⟨.hbm, 139, rfl⟩
abbrev main_call6_call0_v5 : Ref sig .tc := ⟨.hbm, 140, rfl⟩
abbrev main_call6_call0_v6 : Ref sig .tc := ⟨.hbm, 141, rfl⟩
abbrev main_call6_call0_v7 : Ref sig .tc := ⟨.hbm, 142, rfl⟩
abbrev main_call6_call0_v8 : Ref sig .tc := ⟨.hbm, 143, rfl⟩
abbrev main_call6_call0_v9 : Ref sig .tc := ⟨.hbm, 144, rfl⟩
abbrev main_call6_call0_v10 : Ref sig .tc := ⟨.hbm, 145, rfl⟩
abbrev main_call6_call0_c : Ref sig .tc := ⟨.hbm, 146, rfl⟩
abbrev main_call6_call0_v11 : Ref sig .tc := ⟨.hbm, 147, rfl⟩
abbrev main_call6_call0_v12 : Ref sig .tc := ⟨.hbm, 148, rfl⟩
abbrev main_call6_call0_c_0 : Ref sig .tc := ⟨.hbm, 149, rfl⟩
abbrev main_call6_call0_v13 : Ref sig .tc := ⟨.hbm, 150, rfl⟩
abbrev main_call6_call0_v14 : Ref sig .tc := ⟨.hbm, 151, rfl⟩
abbrev main_call6_call0_c_1 : Ref sig .tc := ⟨.hbm, 152, rfl⟩
abbrev main_call6_call0_v15 : Ref sig .tc := ⟨.hbm, 153, rfl⟩
abbrev main_call6_call0_v16 : Ref sig .tc := ⟨.hbm, 154, rfl⟩
abbrev main_call6_call0_c_2 : Ref sig .tc := ⟨.hbm, 155, rfl⟩
abbrev main_call6_call0_v17 : Ref sig .tc := ⟨.hbm, 156, rfl⟩
abbrev main_call6_call0_v18 : Ref sig .tc := ⟨.hbm, 157, rfl⟩
abbrev main_call6_call0_v19 : Ref sig .tc := ⟨.hbm, 158, rfl⟩
abbrev main_call6_call0_v20 : Ref sig .tc := ⟨.hbm, 159, rfl⟩
abbrev main_call6_call0_v21 : Ref sig .tc := ⟨.hbm, 160, rfl⟩
abbrev main_call6_call0_c_3 : Ref sig .tc := ⟨.hbm, 161, rfl⟩
abbrev main_call6_call0_v22 : Ref sig .tc := ⟨.hbm, 162, rfl⟩
abbrev main_call6_call0_v23 : Ref sig .tc := ⟨.hbm, 163, rfl⟩
abbrev main_call6_call0_v24 : Ref sig .tc := ⟨.hbm, 164, rfl⟩
abbrev main_call6_call0_v25 : Ref sig .tc := ⟨.hbm, 165, rfl⟩
abbrev main_call6_call0_call0_v0 : Ref sig .tc := ⟨.hbm, 166, rfl⟩
abbrev main_call6_call0_call0_c : Ref sig .tc := ⟨.hbm, 167, rfl⟩
abbrev main_call6_call0_call0_v1 : Ref sig .tc := ⟨.hbm, 168, rfl⟩
abbrev main_call6_call0_call0_v2 : Ref sig .tc := ⟨.hbm, 169, rfl⟩
abbrev main_call6_call0_call0_v3 : Ref sig .tc := ⟨.hbm, 170, rfl⟩
abbrev main_call6_call0_call0_v4 : Ref sig .tc := ⟨.hbm, 171, rfl⟩
abbrev main_call6_call0_call0_v5 : Ref sig .tc := ⟨.hbm, 172, rfl⟩
abbrev main_call6_call0_call0_v6 : Ref sig .tc := ⟨.hbm, 173, rfl⟩
abbrev main_call6_call0_call0_c_0 : Ref sig .tc := ⟨.hbm, 174, rfl⟩
abbrev main_call6_call0_call0_v7 : Ref sig .tc := ⟨.hbm, 175, rfl⟩
abbrev main_call6_call0_call0_v8 : Ref sig .tc := ⟨.hbm, 176, rfl⟩
abbrev main_call6_call0_call0_c_1 : Ref sig .tc := ⟨.hbm, 177, rfl⟩
abbrev main_call6_call0_call0_v9 : Ref sig .tc := ⟨.hbm, 178, rfl⟩
abbrev main_call6_call0_call0_v10 : Ref sig .tc := ⟨.hbm, 179, rfl⟩
abbrev main_call6_call0_call0_v11 : Ref sig .tc := ⟨.hbm, 180, rfl⟩
abbrev main_call6_call0_call0_v12 : Ref sig .tc := ⟨.hbm, 181, rfl⟩
abbrev main_call6_call0_call0_v13 : Ref sig .tc := ⟨.hbm, 182, rfl⟩
abbrev main_call6_call0_call0_c_2 : Ref sig .tc := ⟨.hbm, 183, rfl⟩
abbrev main_call6_call0_call0_v14 : Ref sig .tc := ⟨.hbm, 184, rfl⟩
abbrev main_call6_call0_call0_v15 : Ref sig .tc := ⟨.hbm, 185, rfl⟩
abbrev main_call6_call0_call0_c_3 : Ref sig .tc := ⟨.hbm, 186, rfl⟩
abbrev main_call6_call0_call0_v16 : Ref sig .tc := ⟨.hbm, 187, rfl⟩
abbrev main_call6_call0_call0_v17 : Ref sig .tc := ⟨.hbm, 188, rfl⟩
abbrev main_call6_call0_call0_v18 : Ref sig .tc := ⟨.hbm, 189, rfl⟩
abbrev main_call6_call0_call0_v19 : Ref sig .tc := ⟨.hbm, 190, rfl⟩
abbrev main_call6_call0_call0_v20 : Ref sig .tc := ⟨.hbm, 191, rfl⟩
abbrev main_call6_call0_call0_c_4 : Ref sig .tc := ⟨.hbm, 192, rfl⟩
abbrev main_call6_call0_call0_v21 : Ref sig .tc := ⟨.hbm, 193, rfl⟩
abbrev main_call6_call0_call0_v22 : Ref sig .tc := ⟨.hbm, 194, rfl⟩
abbrev main_call6_call0_call0_c_5 : Ref sig .tc := ⟨.hbm, 195, rfl⟩
abbrev main_call6_call0_call0_v23 : Ref sig .tc := ⟨.hbm, 196, rfl⟩
abbrev main_call6_call0_call0_v24 : Ref sig .tc := ⟨.hbm, 197, rfl⟩
abbrev main_call6_call0_call0_v25 : Ref sig .tc := ⟨.hbm, 198, rfl⟩
abbrev main_call6_call0_call0_v26 : Ref sig .tc := ⟨.hbm, 199, rfl⟩
abbrev main_call6_call0_call0_v27 : Ref sig .tc := ⟨.hbm, 200, rfl⟩
abbrev main_call6_call0_call0_c_6 : Ref sig .tc := ⟨.hbm, 201, rfl⟩
abbrev main_call6_call0_call0_v28 : Ref sig .tc := ⟨.hbm, 202, rfl⟩
abbrev main_call6_call0_call0_v29 : Ref sig .tc := ⟨.hbm, 203, rfl⟩
abbrev main_call6_call0_call0_c_7 : Ref sig .tc := ⟨.hbm, 204, rfl⟩
abbrev main_call6_call0_call0_v30 : Ref sig .tc := ⟨.hbm, 205, rfl⟩
abbrev main_call6_call0_call0_v31 : Ref sig .tc := ⟨.hbm, 206, rfl⟩
abbrev main_call6_call0_call0_v32 : Ref sig .tc := ⟨.hbm, 207, rfl⟩
abbrev main_call6_call0_call0_v33 : Ref sig .tc := ⟨.hbm, 208, rfl⟩
abbrev main_call6_call0_call0_v34 : Ref sig .tc := ⟨.hbm, 209, rfl⟩
abbrev main_call6_call0_call0_v35 : Ref sig .tc := ⟨.hbm, 210, rfl⟩
abbrev main_call6_call0_call0_v36 : Ref sig .tc := ⟨.hbm, 211, rfl⟩
abbrev main_call6_call0_call0_v37 : Ref sig .tc := ⟨.hbm, 212, rfl⟩
abbrev main_call6_call0_call0_c_8 : Ref sig .tc := ⟨.hbm, 213, rfl⟩
abbrev main_call6_call0_call0_v38 : Ref sig .tc := ⟨.hbm, 214, rfl⟩
abbrev main_call6_call0_call0_v39 : Ref sig .tc := ⟨.hbm, 215, rfl⟩
abbrev main_call6_call0_call0_v40 : Ref sig .tc := ⟨.hbm, 216, rfl⟩
abbrev main_call6_call0_call0_c_9 : Ref sig .tc := ⟨.hbm, 217, rfl⟩
abbrev main_call6_call0_call0_v41 : Ref sig .tc := ⟨.hbm, 218, rfl⟩
abbrev main_call6_call0_call0_v42 : Ref sig .tc := ⟨.hbm, 219, rfl⟩
abbrev main_call6_call0_call0_c_10 : Ref sig .tc := ⟨.hbm, 220, rfl⟩
abbrev main_call6_call0_call0_v43 : Ref sig .tc := ⟨.hbm, 221, rfl⟩
abbrev main_call6_call0_call0_v44 : Ref sig .tc := ⟨.hbm, 222, rfl⟩
abbrev main_call6_call0_call0_v45 : Ref sig .tc := ⟨.hbm, 223, rfl⟩
abbrev main_call6_call0_call0_v46 : Ref sig .tc := ⟨.hbm, 224, rfl⟩
abbrev main_call6_call0_call0_v47 : Ref sig .tc := ⟨.hbm, 225, rfl⟩
abbrev main_call6_call0_call0_c_11 : Ref sig .tc := ⟨.hbm, 226, rfl⟩
abbrev main_call6_call0_call0_v48 : Ref sig .tc := ⟨.hbm, 227, rfl⟩
abbrev main_call6_call0_call0_v49 : Ref sig .tc := ⟨.hbm, 228, rfl⟩
abbrev main_call6_call0_call0_c_12 : Ref sig .tc := ⟨.hbm, 229, rfl⟩
abbrev main_call6_call0_call0_v50 : Ref sig .tc := ⟨.hbm, 230, rfl⟩
abbrev main_call6_call0_call0_v51 : Ref sig .tc := ⟨.hbm, 231, rfl⟩
abbrev main_call6_call0_call0_v52 : Ref sig .tc := ⟨.hbm, 232, rfl⟩
abbrev main_call6_call0_call0_v53 : Ref sig .tc := ⟨.hbm, 233, rfl⟩
abbrev main_call6_call0_call0_v54 : Ref sig .tc := ⟨.hbm, 234, rfl⟩
abbrev main_call6_call0_call0_c_13 : Ref sig .tc := ⟨.hbm, 235, rfl⟩
abbrev main_call6_call0_call0_v55 : Ref sig .tc := ⟨.hbm, 236, rfl⟩
abbrev main_call6_call0_call0_v56 : Ref sig .tc := ⟨.hbm, 237, rfl⟩
abbrev main_call6_call0_call0_c_14 : Ref sig .tc := ⟨.hbm, 238, rfl⟩
abbrev main_call6_call0_call0_v57 : Ref sig .tc := ⟨.hbm, 239, rfl⟩
abbrev main_call6_call0_call0_v58 : Ref sig .tc := ⟨.hbm, 240, rfl⟩
abbrev main_call6_call0_call0_v59 : Ref sig .tc := ⟨.hbm, 241, rfl⟩
abbrev main_call6_call0_call0_v60 : Ref sig .tc := ⟨.hbm, 242, rfl⟩
abbrev main_call6_call0_call0_v61 : Ref sig .tc := ⟨.hbm, 243, rfl⟩
abbrev main_call6_call0_call0_c_15 : Ref sig .tc := ⟨.hbm, 244, rfl⟩
abbrev main_call6_call0_call0_v62 : Ref sig .tc := ⟨.hbm, 245, rfl⟩
abbrev main_call6_call0_call0_v63 : Ref sig .tc := ⟨.hbm, 246, rfl⟩
abbrev main_call6_call0_call0_c_16 : Ref sig .tc := ⟨.hbm, 247, rfl⟩
abbrev main_call6_call0_call0_v64 : Ref sig .tc := ⟨.hbm, 248, rfl⟩
abbrev main_call6_call0_call0_v65 : Ref sig .tc := ⟨.hbm, 249, rfl⟩
abbrev main_call6_call0_call0_v66 : Ref sig .tc := ⟨.hbm, 250, rfl⟩
abbrev main_call6_call0_call0_v67 : Ref sig .tc := ⟨.hbm, 251, rfl⟩
abbrev main_call6_call0_call0_v68 : Ref sig .tc := ⟨.hbm, 252, rfl⟩
abbrev main_call6_call0_call0_v69 : Ref sig .tc := ⟨.hbm, 253, rfl⟩
abbrev main_call6_call0_call0_v70 : Ref sig .tc := ⟨.hbm, 254, rfl⟩
abbrev main_call6_call0_call0_v71 : Ref sig .tc := ⟨.hbm, 255, rfl⟩
abbrev main_call6_call0_call0_c_17 : Ref sig .tc := ⟨.hbm, 256, rfl⟩
abbrev main_call6_call0_call0_v72 : Ref sig .tc := ⟨.hbm, 257, rfl⟩
abbrev main_call6_call0_call0_v73 : Ref sig .tc := ⟨.hbm, 258, rfl⟩
abbrev main_call6_call0_call0_v74 : Ref sig .tc := ⟨.hbm, 259, rfl⟩
abbrev main_call6_call0_call0_c_18 : Ref sig .tc := ⟨.hbm, 260, rfl⟩
abbrev main_call6_call0_call0_v75 : Ref sig .tc := ⟨.hbm, 261, rfl⟩
abbrev main_call6_call0_call0_v76 : Ref sig .tc := ⟨.hbm, 262, rfl⟩
abbrev main_call6_call0_call0_c_19 : Ref sig .tc := ⟨.hbm, 263, rfl⟩
abbrev main_call6_call0_call0_v77 : Ref sig .tc := ⟨.hbm, 264, rfl⟩
abbrev main_call6_call0_call0_v78 : Ref sig .tc := ⟨.hbm, 265, rfl⟩
abbrev main_call6_call0_call0_v79 : Ref sig .tc := ⟨.hbm, 266, rfl⟩
abbrev main_call6_call0_call0_v80 : Ref sig .tc := ⟨.hbm, 267, rfl⟩
abbrev main_call6_call0_call0_v81 : Ref sig .tc := ⟨.hbm, 268, rfl⟩
abbrev main_call6_call0_call0_c_20 : Ref sig .tc := ⟨.hbm, 269, rfl⟩
abbrev main_call6_call0_call0_v82 : Ref sig .tc := ⟨.hbm, 270, rfl⟩
abbrev main_call6_call0_call0_v83 : Ref sig .tc := ⟨.hbm, 271, rfl⟩
abbrev main_call6_call0_call0_c_21 : Ref sig .tc := ⟨.hbm, 272, rfl⟩
abbrev main_call6_call0_call0_v84 : Ref sig .tc := ⟨.hbm, 273, rfl⟩
abbrev main_call6_call0_call0_v85 : Ref sig .tc := ⟨.hbm, 274, rfl⟩
abbrev main_call6_call0_call0_v86 : Ref sig .tc := ⟨.hbm, 275, rfl⟩
abbrev main_call6_call0_call0_v87 : Ref sig .tc := ⟨.hbm, 276, rfl⟩
abbrev main_call6_call0_call0_v88 : Ref sig .tc := ⟨.hbm, 277, rfl⟩
abbrev main_call6_call0_call0_c_22 : Ref sig .tc := ⟨.hbm, 278, rfl⟩
abbrev main_call6_call0_call0_v89 : Ref sig .tc := ⟨.hbm, 279, rfl⟩
abbrev main_call6_call0_call0_v90 : Ref sig .tc := ⟨.hbm, 280, rfl⟩
abbrev main_call6_call0_call0_c_23 : Ref sig .tc := ⟨.hbm, 281, rfl⟩
abbrev main_call6_call0_call0_v91 : Ref sig .tc := ⟨.hbm, 282, rfl⟩
abbrev main_call6_call0_call0_v92 : Ref sig .tc := ⟨.hbm, 283, rfl⟩
abbrev main_call6_call0_call0_v93 : Ref sig .tc := ⟨.hbm, 284, rfl⟩
abbrev main_call6_call0_call0_v94 : Ref sig .tc := ⟨.hbm, 285, rfl⟩
abbrev main_call6_call0_call0_v95 : Ref sig .tc := ⟨.hbm, 286, rfl⟩
abbrev main_call6_call0_call0_c_24 : Ref sig .tc := ⟨.hbm, 287, rfl⟩
abbrev main_call6_call0_call0_v96 : Ref sig .tc := ⟨.hbm, 288, rfl⟩
abbrev main_call6_call0_call0_v97 : Ref sig .tc := ⟨.hbm, 289, rfl⟩
abbrev main_call6_call0_call0_c_25 : Ref sig .tc := ⟨.hbm, 290, rfl⟩
abbrev main_call6_call0_call0_v98 : Ref sig .tc := ⟨.hbm, 291, rfl⟩
abbrev main_call6_call0_call0_v99 : Ref sig .tc := ⟨.hbm, 292, rfl⟩
abbrev main_call6_call0_call0_v100 : Ref sig .tc := ⟨.hbm, 293, rfl⟩
abbrev main_call6_call0_call0_v101 : Ref sig .tc := ⟨.hbm, 294, rfl⟩
abbrev main_call6_call0_call0_v102 : Ref sig .tc := ⟨.hbm, 295, rfl⟩
abbrev main_call6_call0_call0_v103 : Ref sig .tc := ⟨.hbm, 296, rfl⟩
abbrev main_call6_call0_call0_v104 : Ref sig .tc := ⟨.hbm, 297, rfl⟩
abbrev main_call6_call0_call0_v105 : Ref sig .tc := ⟨.hbm, 298, rfl⟩
abbrev main_call6_call0_call0_c_26 : Ref sig .tc := ⟨.hbm, 299, rfl⟩
abbrev main_call6_call0_call0_v106 : Ref sig .tc := ⟨.hbm, 300, rfl⟩
abbrev main_call6_call0_call0_v107 : Ref sig .tc := ⟨.hbm, 301, rfl⟩
abbrev main_call6_call0_call0_v108 : Ref sig .tc := ⟨.hbm, 302, rfl⟩
abbrev main_call6_call0_call0_c_27 : Ref sig .tc := ⟨.hbm, 303, rfl⟩
abbrev main_call6_call0_call0_v109 : Ref sig .tc := ⟨.hbm, 304, rfl⟩
abbrev main_call6_call0_call0_v110 : Ref sig .tc := ⟨.hbm, 305, rfl⟩
abbrev main_call6_call0_call0_c_28 : Ref sig .tc := ⟨.hbm, 306, rfl⟩
abbrev main_call6_call0_call0_v111 : Ref sig .tc := ⟨.hbm, 307, rfl⟩
abbrev main_call6_call0_call0_v112 : Ref sig .tc := ⟨.hbm, 308, rfl⟩
abbrev main_call6_call0_call0_v113 : Ref sig .tc := ⟨.hbm, 309, rfl⟩
abbrev main_call6_call0_call0_v114 : Ref sig .tc := ⟨.hbm, 310, rfl⟩
abbrev main_call6_call0_call0_v115 : Ref sig .tc := ⟨.hbm, 311, rfl⟩
abbrev main_call6_call0_call0_c_29 : Ref sig .tc := ⟨.hbm, 312, rfl⟩
abbrev main_call6_call0_call0_v116 : Ref sig .tc := ⟨.hbm, 313, rfl⟩
abbrev main_call6_call0_call0_v117 : Ref sig .tc := ⟨.hbm, 314, rfl⟩
abbrev main_call6_call0_call0_c_30 : Ref sig .tc := ⟨.hbm, 315, rfl⟩
abbrev main_call6_call0_call0_v118 : Ref sig .tc := ⟨.hbm, 316, rfl⟩
abbrev main_call6_call0_call0_v119 : Ref sig .tc := ⟨.hbm, 317, rfl⟩
abbrev main_call6_call0_call0_v120 : Ref sig .tc := ⟨.hbm, 318, rfl⟩
abbrev main_call6_call0_call0_v121 : Ref sig .tc := ⟨.hbm, 319, rfl⟩
abbrev main_call6_call0_call0_v122 : Ref sig .tc := ⟨.hbm, 320, rfl⟩
abbrev main_call6_call0_call0_c_31 : Ref sig .tc := ⟨.hbm, 321, rfl⟩
abbrev main_call6_call0_call0_v123 : Ref sig .tc := ⟨.hbm, 322, rfl⟩
abbrev main_call6_call0_call0_v124 : Ref sig .tc := ⟨.hbm, 323, rfl⟩
abbrev main_call6_call0_call0_c_32 : Ref sig .tc := ⟨.hbm, 324, rfl⟩
abbrev main_call6_call0_call0_v125 : Ref sig .tc := ⟨.hbm, 325, rfl⟩
abbrev main_call6_call0_call0_v126 : Ref sig .tc := ⟨.hbm, 326, rfl⟩
abbrev main_call6_call0_call0_v127 : Ref sig .tc := ⟨.hbm, 327, rfl⟩
abbrev main_call6_call0_call0_v128 : Ref sig .tc := ⟨.hbm, 328, rfl⟩
abbrev main_call6_call0_call0_v129 : Ref sig .tc := ⟨.hbm, 329, rfl⟩
abbrev main_call6_call0_call0_c_33 : Ref sig .tc := ⟨.hbm, 330, rfl⟩
abbrev main_call6_call0_call0_v130 : Ref sig .tc := ⟨.hbm, 331, rfl⟩
abbrev main_call6_call0_call0_v131 : Ref sig .tc := ⟨.hbm, 332, rfl⟩
abbrev main_call6_call0_call0_c_34 : Ref sig .tc := ⟨.hbm, 333, rfl⟩
abbrev main_call6_call0_call0_v132 : Ref sig .tc := ⟨.hbm, 334, rfl⟩
abbrev main_call6_call0_call0_v133 : Ref sig .tc := ⟨.hbm, 335, rfl⟩
abbrev main_call6_call0_call0_v134 : Ref sig .tc := ⟨.hbm, 336, rfl⟩
abbrev main_call6_call0_call0_v135 : Ref sig .tc := ⟨.hbm, 337, rfl⟩
abbrev main_call6_call0_call0_v136 : Ref sig .tc := ⟨.hbm, 338, rfl⟩
abbrev main_call6_call0_call0_v137 : Ref sig .tc := ⟨.hbm, 339, rfl⟩
abbrev main_call6_call0_call0_v138 : Ref sig .tc := ⟨.hbm, 340, rfl⟩
abbrev main_call6_call0_call0_v139 : Ref sig .tc := ⟨.hbm, 341, rfl⟩
abbrev main_call6_call0_call0_c_35 : Ref sig .tc := ⟨.hbm, 342, rfl⟩
abbrev main_call6_call0_call0_v140 : Ref sig .tc := ⟨.hbm, 343, rfl⟩
abbrev main_call6_call0_call0_v141 : Ref sig .tc := ⟨.hbm, 344, rfl⟩
abbrev main_call6_call0_call0_v142 : Ref sig .tc := ⟨.hbm, 345, rfl⟩
abbrev main_call6_call0_call0_c_36 : Ref sig .tc := ⟨.hbm, 346, rfl⟩
abbrev main_call6_call0_call0_v143 : Ref sig .tc := ⟨.hbm, 347, rfl⟩
abbrev main_call6_call0_call0_v144 : Ref sig .tc := ⟨.hbm, 348, rfl⟩
abbrev main_call6_call0_call0_c_37 : Ref sig .tc := ⟨.hbm, 349, rfl⟩
abbrev main_call6_call0_call0_v145 : Ref sig .tc := ⟨.hbm, 350, rfl⟩
abbrev main_call6_call0_call0_v146 : Ref sig .tc := ⟨.hbm, 351, rfl⟩
abbrev main_call6_call0_call0_v147 : Ref sig .tc := ⟨.hbm, 352, rfl⟩
abbrev main_call6_call0_call0_v148 : Ref sig .tc := ⟨.hbm, 353, rfl⟩
abbrev main_call6_call0_call0_v149 : Ref sig .tc := ⟨.hbm, 354, rfl⟩
abbrev main_call6_call0_call0_c_38 : Ref sig .tc := ⟨.hbm, 355, rfl⟩
abbrev main_call6_call0_call0_v150 : Ref sig .tc := ⟨.hbm, 356, rfl⟩
abbrev main_call6_call0_call0_v151 : Ref sig .tc := ⟨.hbm, 357, rfl⟩
abbrev main_call6_call0_call0_c_39 : Ref sig .tc := ⟨.hbm, 358, rfl⟩
abbrev main_call6_call0_call0_v152 : Ref sig .tc := ⟨.hbm, 359, rfl⟩
abbrev main_call6_call0_call0_v153 : Ref sig .tc := ⟨.hbm, 360, rfl⟩
abbrev main_call6_call0_call0_v154 : Ref sig .tc := ⟨.hbm, 361, rfl⟩
abbrev main_call6_call0_call0_v155 : Ref sig .tc := ⟨.hbm, 362, rfl⟩
abbrev main_call6_call0_call0_v156 : Ref sig .tc := ⟨.hbm, 363, rfl⟩
abbrev main_call6_call0_call0_c_40 : Ref sig .tc := ⟨.hbm, 364, rfl⟩
abbrev main_call6_call0_call0_v157 : Ref sig .tc := ⟨.hbm, 365, rfl⟩
abbrev main_call6_call0_call0_v158 : Ref sig .tc := ⟨.hbm, 366, rfl⟩
abbrev main_call6_call0_call0_c_41 : Ref sig .tc := ⟨.hbm, 367, rfl⟩
abbrev main_call6_call0_call0_v159 : Ref sig .tc := ⟨.hbm, 368, rfl⟩
abbrev main_call6_call0_call0_v160 : Ref sig .tc := ⟨.hbm, 369, rfl⟩
abbrev main_call6_call0_call0_v161 : Ref sig .tc := ⟨.hbm, 370, rfl⟩
abbrev main_call6_call0_call0_v162 : Ref sig .tc := ⟨.hbm, 371, rfl⟩
abbrev main_call6_call0_call0_v163 : Ref sig .tc := ⟨.hbm, 372, rfl⟩
abbrev main_call6_call0_call0_c_42 : Ref sig .tc := ⟨.hbm, 373, rfl⟩
abbrev main_call6_call0_call0_v164 : Ref sig .tc := ⟨.hbm, 374, rfl⟩
abbrev main_call6_call0_call0_v165 : Ref sig .tc := ⟨.hbm, 375, rfl⟩
abbrev main_call6_call0_call0_c_43 : Ref sig .tc := ⟨.hbm, 376, rfl⟩
abbrev main_call6_call0_call0_v166 : Ref sig .tc := ⟨.hbm, 377, rfl⟩
abbrev main_call6_call0_call0_v167 : Ref sig .tc := ⟨.hbm, 378, rfl⟩
abbrev main_call6_call0_call0_v168 : Ref sig .tc := ⟨.hbm, 379, rfl⟩
abbrev main_call6_call0_call0_v169 : Ref sig .tc := ⟨.hbm, 380, rfl⟩
abbrev main_call6_call0_call0_v170 : Ref sig .tc := ⟨.hbm, 381, rfl⟩
abbrev main_call6_call0_v26_0 : Ref sig .tc := ⟨.hbm, 382, rfl⟩
abbrev main_call6_call0_call0_v172 : Ref sig .tc := ⟨.hbm, 383, rfl⟩
abbrev main_call6_call0_call0_v173 : Ref sig .tc := ⟨.hbm, 384, rfl⟩
abbrev main_call6_call0_call0_c_44 : Ref sig .tc := ⟨.hbm, 385, rfl⟩
abbrev main_call6_call0_call0_v174 : Ref sig .tc := ⟨.hbm, 386, rfl⟩
abbrev main_call6_call0_v26_1 : Ref sig .tc := ⟨.hbm, 387, rfl⟩
abbrev main_call6_call0_v27 : Ref sig .tc := ⟨.hbm, 388, rfl⟩
abbrev main_call6_call0_c_4 : Ref sig .tc := ⟨.hbm, 389, rfl⟩
abbrev main_call6_call0_v28 : Ref sig .tc := ⟨.hbm, 390, rfl⟩
abbrev main_call6_call0_v29 : Ref sig .tc := ⟨.hbm, 391, rfl⟩
abbrev main_call6_call0_c_5 : Ref sig .tc := ⟨.hbm, 392, rfl⟩
abbrev main_call6_call0_v30 : Ref sig .tc := ⟨.hbm, 393, rfl⟩
abbrev main_call6_call0_v31 : Ref sig .tc := ⟨.hbm, 394, rfl⟩
abbrev main_call6_call0_v32 : Ref sig .tc := ⟨.hbm, 395, rfl⟩
abbrev main_call6_call0_cst : Ref sig .tc := ⟨.hbm, 396, rfl⟩
abbrev main_call6_call0_v33 : Ref sig .tc := ⟨.hbm, 397, rfl⟩
abbrev main_call6_call0_v34 : Ref sig .tc := ⟨.hbm, 398, rfl⟩
abbrev main_call6_call0_v35 : Ref sig .tc := ⟨.hbm, 399, rfl⟩
abbrev main_call6_call0_v36 : Ref sig .tc := ⟨.hbm, 400, rfl⟩
abbrev main_call6_call0_v37 : Ref sig .tc := ⟨.hbm, 401, rfl⟩
abbrev main_call6_call0_v38 : Ref sig .tc := ⟨.hbm, 402, rfl⟩
abbrev main_call6_call0_v39 : Ref sig .tc := ⟨.hbm, 403, rfl⟩
abbrev main_call6_call0_v40 : Ref sig .tc := ⟨.hbm, 404, rfl⟩
abbrev main_call6_v0 : Ref sig .tc := ⟨.hbm, 405, rfl⟩
abbrev main_call6_v1 : Ref sig .tc := ⟨.hbm, 406, rfl⟩
abbrev main_call6_v2 : Ref sig .tc := ⟨.hbm, 407, rfl⟩
abbrev main_call6_v3 : Ref sig .tc := ⟨.hbm, 408, rfl⟩
abbrev main_v98 : Ref sig .tc := ⟨.hbm, 409, rfl⟩
abbrev main_v99 : Ref sig .tc := ⟨.hbm, 410, rfl⟩
abbrev main_call7_v0 : Ref sig .tc := ⟨.hbm, 411, rfl⟩
abbrev main_call7_cst : Ref sig .tc := ⟨.hbm, 412, rfl⟩
abbrev main_call7_c : Ref sig .tc := ⟨.hbm, 413, rfl⟩
abbrev main_call7_v1_0 : Ref sig .tc := ⟨.hbm, 414, rfl⟩
abbrev main_v100 : Ref sig .tc := ⟨.hbm, 415, rfl⟩
abbrev main_call8_v0 : Ref sig .tc := ⟨.hbm, 416, rfl⟩
abbrev main_call8_v1 : Ref sig .tc := ⟨.hbm, 417, rfl⟩
abbrev main_call8_v2 : Ref sig .tc := ⟨.hbm, 418, rfl⟩
abbrev main_call8_v3 : Ref sig .tc := ⟨.hbm, 419, rfl⟩
abbrev main_call8_v4 : Ref sig .tc := ⟨.hbm, 420, rfl⟩
abbrev main_v101 : Ref sig .tc := ⟨.hbm, 421, rfl⟩
abbrev main_cst_10 : Ref sig .tc := ⟨.hbm, 422, rfl⟩
abbrev main_v102 : Ref sig .tc := ⟨.hbm, 423, rfl⟩
abbrev main_v103 : Ref sig .tc := ⟨.hbm, 424, rfl⟩
abbrev main_v104 : Ref sig .tc := ⟨.hbm, 425, rfl⟩
abbrev main_v105 : Ref sig .tc := ⟨.hbm, 426, rfl⟩
abbrev main_v106 : Ref sig .tc := ⟨.hbm, 427, rfl⟩
abbrev main_v107 : Ref sig .tc := ⟨.hbm, 428, rfl⟩
abbrev main_v108 : Ref sig .tc := ⟨.hbm, 429, rfl⟩
abbrev main_v109 : Ref sig .tc := ⟨.hbm, 430, rfl⟩
abbrev main_v110 : Ref sig .tc := ⟨.hbm, 431, rfl⟩
abbrev main_v111 : Ref sig .tc := ⟨.hbm, 432, rfl⟩
abbrev main_v112 : Ref sig .tc := ⟨.hbm, 433, rfl⟩
abbrev main_v113 : Ref sig .tc := ⟨.hbm, 434, rfl⟩

abbrev nD : Nat := 1
abbrev τ : Topo := Topo.v7x

variable {F : FTy → Type} [FloatOps F]
-- ==== Proof.KernelIdeal.FeatBody.lean ====
/- The feature stage, one grid point at a time: what the body of the first call leaves in its output block, the triple
   that says so, and the stage's proof data over the buffer contents `V` the stage is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.WritesUnit
public import Idealize.ShloMosaic.Lib.Tactic

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The block one point computes -/

/-- The 8 feature rows a grid point computes from its 8 images `x`, the taps `w1`, `b1` of the first convolution and
    the weights `w2`, `b2` of the second. -/
def featBlock (x : Vec F S8x1x45x45 .f32) (w1 : Vec F S9x32 .f32) (b1 : Vec F S1x32 .f32) (w2 : Vec F S64x288 .f32)
    (b2 : Vec F S1x64 .f32) : Vec F S8x7744 .f32 :=
  k0_pay1 (k0_pay7 (k0_pay2 x) (k0_pay3 w1) (k0_pay4 x w1 b1) (k0_pay5 x) (k0_pay6 w1)) 0#32 w2 b2

/-- A whole-array store at offset zero leaves its value. -/
theorem read_full_store2 {S : Shape} {e : EltTy} (v : View sig .tc .vmem S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  funext y
  exact View.read_writes_cons_unit_of_mem v f inb w [] y y h fun a => (Nat.zero_add _).symm

/-- The offsets of a whole-array access are zero, at each rank met here. -/
theorem off2 : (![0, 0] : Fin 2 → ℕ) = fun _ => 0 := by funext a; fin_cases a <;> rfl
theorem off4 : (![0, 0, 0, 0] : Fin 4 → ℕ) = fun _ => 0 := by funext a; fin_cases a <;> rfl

set_option maxHeartbeats 1000000 in
/-- THE BODY of the feature stage: on whole buffers holding the point's blocks it terminates, leaves its inputs as they
    were and its output block at `featBlock` of them. -/
theorem feat_triple (c : Dev nD) (E : Set ℕ) (i : grid0.Coords)
    (arg1 : Memref sig .tc .vmem S8x1x45x45 .f32) (harg1 : arg1.IsWhole) (arg2 : Memref sig .tc .vmem S9x32 .f32) (harg2 : arg2.IsWhole)
    (arg3 : Memref sig .tc .vmem S1x32 .f32) (harg3 : arg3.IsWhole) (arg4 : Memref sig .tc .vmem S64x288 .f32) (harg4 : arg4.IsWhole)
    (arg5 : Memref sig .tc .vmem S1x64 .f32) (harg5 : arg5.IsWhole) (arg6 : Memref sig .tc .vmem S8x7744 .f32) (harg6 : arg6.IsWhole)
    (x0 : Vec F S8x1x45x45 .f32) (x1 : Vec F S9x32 .f32) (x2 : Vec F S1x32 .f32) (x3 : Vec F S64x288 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (featBlock x0 x1 x2 x3 x4)) -∗ K ⟨⟩))
      ⊢ wp frame (wpE (defs₀ (F := F)) Variants.none c none) E
          (cc0__feat_kernel i arg1 harg1 arg2 harg2 arg3 harg3 arg4 harg4 arg5 harg5 arg6 harg6) K := by
  simp only [cc0__feat_kernel_eq_skeleton]; unfold cc0__feat_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (read_full_store2 _ _ off2 _ _).trans ?_
  have e0 := View.ld_unit_zero off4 inb_S8x1x45x45_S8x1x45x45_0_0_0_0 (arg1.view.read (Elt F) f0)
  have e1 := View.ld_unit_zero off2 inb_S9x32_S9x32_0_0 (arg2.view.read (Elt F) f1)
  have e2 := View.ld_unit_zero off2 inb_S1x32_S1x32_0_0 (arg3.view.read (Elt F) f2)
  have e3 := View.ld_unit_zero off2 inb_S64x288_S64x288_0_0 (arg4.view.read (Elt F) f3)
  have e4 := View.ld_unit_zero off2 inb_S1x64_S1x64_0_0 (arg5.view.read (Elt F) f4)
  unfold featBlock
  rw [← e0, ← e1, ← e2, ← e3, ← e4]
  rfl

/-! ## The stage over the entry contents -/

section Data
-- what the buffers hold when the stage is entered
variable (V : (c : Dev nD) → (b : Ref sig .tc) → Buf (Elt F) ((c : Thread nD τ).loc b))

/-- Window `w`'s block at point `t`, read off its array. -/
def featIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block at point `t`. -/
def featOut (c : Dev nD) (t : Fin cfg0.N) : Vec F S8x7744 .f32 :=
  featBlock (featIn V c 0 t) (featIn V c 1 t) (featIn V c 2 t) (featIn V c 3 t) (featIn V c 4 t)

/-- The proof data of the feature stage: inputs keep their blocks, the output block ends at `featOut`; nothing is owed. -/
def featDat (c : Dev nD) : Dat τ (Elt F) Unit ℕ (UR sig nD τ) ℕ cfg0 c where
  A w := V c (Pipeline.arrRef spec0 w)
  after w t := match w with
    | ⟨0, _⟩ => featIn V c 0 t
    | ⟨1, _⟩ => featIn V c 1 t
    | ⟨2, _⟩ => featIn V c 2 t
    | ⟨3, _⟩ => featIn V c 3 t
    | ⟨4, _⟩ => featIn V c 4 t
    | ⟨5, _⟩ => featOut V c t
  Φ _ := Pipeline.ΦA spec0 c
  q _ := fullShare
  owed _ := 0

theorem featDat_A (c : Dev nD) (w : Fin cfg0.W) : (featDat V c).A w = V c (Pipeline.arrRef spec0 w) := by
  dsimp only [featDat]
theorem featDat_after0 (c : Dev nD) (t : Fin cfg0.N) : (featDat V c).after 0 t = featIn V c 0 t := by dsimp only [featDat]
theorem featDat_after1 (c : Dev nD) (t : Fin cfg0.N) : (featDat V c).after 1 t = featIn V c 1 t := by dsimp only [featDat]
theorem featDat_after2 (c : Dev nD) (t : Fin cfg0.N) : (featDat V c).after 2 t = featIn V c 2 t := by dsimp only [featDat]
theorem featDat_after3 (c : Dev nD) (t : Fin cfg0.N) : (featDat V c).after 3 t = featIn V c 3 t := by dsimp only [featDat]
theorem featDat_after4 (c : Dev nD) (t : Fin cfg0.N) : (featDat V c).after 4 t = featIn V c 4 t := by dsimp only [featDat]
theorem featDat_after5 (c : Dev nD) (t : Fin cfg0.N) : (featDat V c).after 5 t = featOut V c t := by dsimp only [featDat]

/-- Each input window's buffer holds its block at every point, whether fetched there or kept from the point before. -/
theorem featDat_before0 (c : Dev nD) (t : Fin cfg0.N) (d) : (featDat V c).before 0 t d = featIn V c 0 t :=
  (featDat V c).before_in_eq_fetched 0 rfl (fun _ => rfl) (fun _ _ _ => rfl) (fun _ => rfl) t d
theorem featDat_before1 (c : Dev nD) (t : Fin cfg0.N) (d) : (featDat V c).before 1 t d = featIn V c 1 t :=
  (featDat V c).before_in_eq_fetched 1 rfl (fun _ => rfl) (fun _ _ _ => rfl) (fun _ => rfl) t d
theorem featDat_before2 (c : Dev nD) (t : Fin cfg0.N) (d) : (featDat V c).before 2 t d = featIn V c 2 t :=
  (featDat V c).before_in_eq_fetched 2 rfl (fun _ => rfl) (fun _ _ _ => rfl) (fun _ => rfl) t d
theorem featDat_before3 (c : Dev nD) (t : Fin cfg0.N) (d) : (featDat V c).before 3 t d = featIn V c 3 t :=
  (featDat V c).before_in_eq_fetched 3 rfl (fun _ => rfl) (fun _ _ _ => rfl) (fun _ => rfl) t d
theorem featDat_before4 (c : Dev nD) (t : Fin cfg0.N) (d) : (featDat V c).before 4 t d = featIn V c 4 t :=
  (featDat V c).before_in_eq_fetched 4 rfl (fun _ => rfl) (fun _ _ _ => rfl) (fun _ => rfl) t d

/-- The body at a generic point, from the stage's invariant and the windows' buffers to the same after the point. -/
theorem feat_point (c : Dev nD) (t : Fin cfg0.N) :
    iprop((featDat V c).Φ t.castSucc ∗ (featDat V c).owesAt () t.castSucc
      ∗ (∃ d, owns (c : Thread nD τ) (st0_0 t) fullShare ((featDat V c).before 0 t d))
      ∗ (∃ d, owns (c : Thread nD τ) (st0_1 t) fullShare ((featDat V c).before 1 t d))
      ∗ (∃ d, owns (c : Thread nD τ) (st0_2 t) fullShare ((featDat V c).before 2 t d))
      ∗ (∃ d, owns (c : Thread nD τ) (st0_3 t) fullShare ((featDat V c).before 3 t d))
      ∗ (∃ d, owns (c : Thread nD τ) (st0_4 t) fullShare ((featDat V c).before 4 t d))
      ∗ (∃ d, owns (c : Thread nD τ) (st0_5 t) fullShare ((featDat V c).before 5 t d)))
    ⊢ wp frame (wpE (defs₀ (F := F)) Variants.none c none) Set.univ (bodyAt0 t) (fun _ =>
      iprop((featDat V c).Φ t.succ ∗ (featDat V c).owesAt () t.succ
        ∗ owns (c : Thread nD τ) (st0_0 t) fullShare ((featDat V c).after 0 t)
        ∗ owns (c : Thread nD τ) (st0_1 t) fullShare ((featDat V c).after 1 t)
        ∗ owns (c : Thread nD τ) (st0_2 t) fullShare ((featDat V c).after 2 t)
        ∗ owns (c : Thread nD τ) (st0_3 t) fullShare ((featDat V c).after 3 t)
        ∗ owns (c : Thread nD τ) (st0_4 t) fullShare ((featDat V c).after 4 t)
        ∗ owns (c : Thread nD τ) (st0_5 t) fullShare ((featDat V c).after 5 t))) := by
  unfold bodyAt0
  simp only [featDat_before0, featDat_before1, featDat_before2, featDat_before3, featDat_before4]
  rw [show (featDat V c).Φ t.succ = (featDat V c).Φ t.castSucc from rfl,
    show (featDat V c).owesAt () t.succ = (featDat V c).owesAt () t.castSucc from rfl, featDat_after0, featDat_after1,
    featDat_after2, featDat_after3, featDat_after4, featDat_after5]
  iintro ⟨HΦ, Ho, ⟨%d0, H0⟩, ⟨%d1, H1⟩, ⟨%d2, H2⟩, ⟨%d3, H3⟩, ⟨%d4, H4⟩, ⟨%d5, H5⟩⟩
  iapply (feat_triple c Set.univ (grid0.coords t) _ _ _ _ _ _ _ _ _ _ _ _ (featIn V c 0 t) (featIn V c 1 t) (featIn V c 2 t)
    (featIn V c 3 t) (featIn V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem feat_row (t : Fin cfg0.N) :
    defs₀ (F := F) .tc cfg0.body (cfg0.bodyArgs t (cfg0.slots t)) = bodyAt0 t := by
  unfold defs₀; rw [Defs.onTc_tc]

/-- The feature stage meets its body obligation at every point. -/
theorem feat_obligation (c : Dev nD) : BodyObligation (featDat (F := F) V c) (defs₀ (F := F)) Variants.none () Set.univ := fun t => by
  rw [bigSep_W0, bigSep_W0, feat_row]
  exact triple_restated (feat_point V c t) rfl .rfl fun _ => .rfl

end Data

end Cert.KernelIdeal.Stage
-- ==== Proof.KernelIdeal.FcBody.lean ====
/- The classifier stage, one grid point at a time. Its grid walks the 1024 hidden columns in 4 slices of 256; every point
   stores its slice of the first matrix product in a scratch array, and the last point reads the whole scratch and stores
   both results. The invariant carried between points says which columns of the scratch already hold the product. -/
module

public import proofs.«01_k».proof.Proof.KernelIdeal.FeatBody
public import Idealize.ShloMosaic.Lib.WordCmp

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## What a point computes -/

/-- The class numbers along the last axis, which the membership test compares against. -/
abbrev classIota : IVec S448x7x14 32 := iota .tc S448x7x14 32 [2] iota_S448x7x14_d2_w32

/-- The membership result, from the whole hidden product `h`, the biases, the second weights and the noise. -/
def fcMember (h : Vec F S448x1024 .f32) (b1 : Vec F S1x1024 .f32) (w2 : Vec F S14x1024 .f32) (b2 : Vec F S1x14 .f32)
    (g : Vec F S448x98 .f32) : Vec F S448x14 .f32 :=
  k1_pay2 (F := F) classIota (k1_pay5 h b1 w2 b2 g)

/-- The masked symbol result, from the same and the sequence lengths and positions. -/
def fcSymbol (h : Vec F S448x1024 .f32) (b1 : Vec F S1x1024 .f32) (w2 : Vec F S14x1024 .f32) (b2 : Vec F S1x14 .f32)
    (g : Vec F S448x98 .f32) (len pos : Vec F S448x1 .i32) : Vec F S448x14 .f32 :=
  k1_pay3 (k1_pay4 h b1 w2 b2) classIota (k1_pay5 h b1 w2 b2 g) pos len

/-- The slice of 256 columns a point stores starts at 256 times the point's number. -/
theorem slice_off (i : grid1.Coords) : k1_off1 i = ![0, 256 * (i 0).val] := by
  have h : ∀ n : Fin 4, (Scalar.indexCast (Scalar.muli (BitVec.ofNat 32 n.val) 256#32)).toNat = 256 * n.val := by decide
  exact congrArg (fun n => (![0, n] : Fin 2 → ℕ)) (h (i 0))

/-- `d'` is `d` with the point's slice of columns replaced by `p`. -/
def SliceStored (i : grid1.Coords) (p : Vec F S448x256 .f32) (d d' : Vec F S448x1024 .f32) : Prop :=
  (∀ (y : S448x1024.Idx) (x : S448x256.Idx), (y 0).val = (x 0).val → (y 1).val = 256 * (i 0).val + (x 1).val → d' y = p x)
  ∧ ∀ y : S448x1024.Idx, (y 1).val < 256 * (i 0).val → d' y = d y

/-- Writing a slice into a buffer does that to what the buffer reads as. -/
theorem sliceStored (v : View sig .tc .vmem S448x1024 .f32) (f : v.ty.Contents (Elt F)) (i : grid1.Coords) (p : Vec F S448x256 .f32) :
    SliceStored i p (v.read (Elt F) f)
      (v.read (Elt F) (v.writes (Elt F) f [⟨Rect.unit (s := S448x1024) (k1_off1 i) S448x256.size (k1_off1_inb i), p⟩])) := by
  constructor
  · intro y x h0 h1
    refine View.read_writes_cons_unit_of_mem v f (k1_off1_inb i) p [] y x (slice_off i) fun a => ?_
    fin_cases a
    · exact h0.trans (Nat.zero_add _).symm
    · exact h1
  · intro y h
    exact View.read_writes_cons_unit_of_not_mem v f (k1_off1_inb i) p [] y (slice_off i) 1 (Or.inl h)

/-! ## The body -/

set_option maxHeartbeats 2000000 in
/-- A point before the last stores its slice of the product and touches nothing else. -/
theorem fc_triple_mid (c : Dev nD) (E : Set ℕ) (i : grid1.Coords) (arg1 : Memref sig .tc .vmem S448x7744 .f32) (harg1 : arg1.IsWhole) (arg2 : Memref sig .tc .vmem S256x7744 .f32) (harg2 : arg2.IsWhole) (arg3 : Memref sig .tc .vmem S1x1024 .f32) (harg3 : arg3.IsWhole) (arg4 : Memref sig .tc .vmem S14x1024 .f32) (harg4 : arg4.IsWhole) (arg5 : Memref sig .tc .vmem S1x14 .f32) (harg5 : arg5.IsWhole) (arg6 : Memref sig .tc .vmem S448x98 .f32) (harg6 : arg6.IsWhole) (arg7 : Memref sig .tc .vmem S448x1 .i32) (harg7 : arg7.IsWhole) (arg8 : Memref sig .tc .vmem S448x1 .i32) (harg8 : arg8.IsWhole) (arg9 : Memref sig .tc .vmem S448x14 .f32) (harg9 : arg9.IsWhole) (arg10 : Memref sig .tc .vmem S448x14 .f32) (harg10 : arg10.IsWhole) (arg11 : Memref sig .tc .vmem S448x1024 .f32) (harg11 : arg11.IsWhole)
    (hc : ¬ k1_cond1 i = 1#1) (x0 : Vec F S448x7744 .f32) (x1 : Vec F S256x7744 .f32) (d : Vec F S448x1024 .f32) (K : PUnit → sProp 𝕄) :
    iprop(owns (c : Thread nD τ) arg1 fullShare x0 ∗ owns (c : Thread nD τ) arg2 fullShare x1 ∗ owns (c : Thread nD τ) arg11 fullShare d
        ∗ (iprop(owns (c : Thread nD τ) arg1 fullShare x0 ∗ owns (c : Thread nD τ) arg2 fullShare x1
            ∗ (∃ d', ⌜SliceStored i (k1_pay1 x0 x1) d d'⌝ ∗ owns (c : Thread nD τ) arg11 fullShare d')) -∗ K ⟨⟩))
      ⊢ wp frame (wpE (defs₀ (F := F)) Variants.none c none) E (cc1__fc_kernel i arg1 harg1 arg2 harg2 arg3 harg3 arg4 harg4 arg5 harg5 arg6 harg6 arg7 harg7 arg8 harg8 arg9 harg9 arg10 harg10 arg11 harg11) K := by
  simp only [cc1__fc_kernel_eq_skeleton]; unfold cc1__fc_kernel_skel
  unfold owns
  iintro ⟨⟨%f0, %hf0, H0⟩, ⟨%f1, %hf1, H1⟩, ⟨%fs, %hfs, HS⟩, Hk⟩
  subst hf0 hf1 hfs
  sl_exec (disch := first | sl_exact hc)
  sl_step
  iapply Hk
  isplitl [H0]
  · iexists f0; isplitr; · ipureintro; rfl
    iexact H0
  isplitl [H1]
  · iexists f1; isplitr; · ipureintro; rfl
    iexact H1
  iexists _; isplitr
  swap
  · iexists _; isplitr
    swap; · iexact HS
    ipureintro; rfl
  ipureintro
  have e0 := View.ld_unit_zero off2 inb_S448x7744_S448x7744_0_0 (arg1.view.read (Elt F) f0)
  have e1 := View.ld_unit_zero off2 inb_S256x7744_S256x7744_0_0 (arg2.view.read (Elt F) f1)
  rw [← e0, ← e1]
  exact sliceStored arg11.view fs i _

set_option maxHeartbeats 4000000 in
/-- The last point stores its slice, then reads the whole scratch and stores both results from it. -/
theorem fc_triple_last (c : Dev nD) (E : Set ℕ) (i : grid1.Coords) (arg1 : Memref sig .tc .vmem S448x7744 .f32) (harg1 : arg1.IsWhole) (arg2 : Memref sig .tc .vmem S256x7744 .f32) (harg2 : arg2.IsWhole) (arg3 : Memref sig .tc .vmem S1x1024 .f32) (harg3 : arg3.IsWhole) (arg4 : Memref sig .tc .vmem S14x1024 .f32) (harg4 : arg4.IsWhole) (arg5 : Memref sig .tc .vmem S1x14 .f32) (harg5 : arg5.IsWhole) (arg6 : Memref sig .tc .vmem S448x98 .f32) (harg6 : arg6.IsWhole) (arg7 : Memref sig .tc .vmem S448x1 .i32) (harg7 : arg7.IsWhole) (arg8 : Memref sig .tc .vmem S448x1 .i32) (harg8 : arg8.IsWhole) (arg9 : Memref sig .tc .vmem S448x14 .f32) (harg9 : arg9.IsWhole) (arg10 : Memref sig .tc .vmem S448x14 .f32) (harg10 : arg10.IsWhole) (arg11 : Memref sig .tc .vmem S448x1024 .f32) (harg11 : arg11.IsWhole)
    (hc : k1_cond1 i = 1#1) (x0 : Vec F S448x7744 .f32) (x1 : Vec F S256x7744 .f32) (x2 : Vec F S1x1024 .f32) (x3 : Vec F S14x1024 .f32) (x4 : Vec F S1x14 .f32) (x5 : Vec F S448x98 .f32) (x6 : Vec F S448x1 .i32) (x7 : Vec F S448x1 .i32) (d : Vec F S448x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ owns (c : Thread nD τ) arg11 fullShare d
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d', ⌜SliceStored i (k1_pay1 x0 x1) d d'⌝ ∗ owns (c : Thread nD τ) arg9 fullShare (fcSymbol d' x2 x3 x4 x5 x6 x7)
                ∗ owns (c : Thread nD τ) arg10 fullShare (fcMember d' x2 x3 x4 x5) ∗ owns (c : Thread nD τ) arg11 fullShare d')) -∗ K ⟨⟩))
      ⊢ wp frame (wpE (defs₀ (F := F)) Variants.none c none) E (cc1__fc_kernel i arg1 harg1 arg2 harg2 arg3 harg3 arg4 harg4 arg5 harg5 arg6 harg6 arg7 harg7 arg8 harg8 arg9 harg9 arg10 harg10 arg11 harg11) K := by
  simp only [cc1__fc_kernel_eq_skeleton]; unfold cc1__fc_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  subst hf0 hf1 hf2 hf3 hf4 hf5 hf6 hf7 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  have e0 := View.ld_unit_zero off2 inb_S448x7744_S448x7744_0_0 (arg1.view.read (Elt F) f0)
  have e1 := View.ld_unit_zero off2 inb_S256x7744_S256x7744_0_0 (arg2.view.read (Elt F) f1)
  have e2 := View.ld_unit_zero off2 inb_S1x1024_S1x1024_0_0 (arg3.view.read (Elt F) f2)
  have e3 := View.ld_unit_zero off2 inb_S14x1024_S14x1024_0_0 (arg4.view.read (Elt F) f3)
  have e4 := View.ld_unit_zero off2 inb_S1x14_S1x14_0_0 (arg5.view.read (Elt F) f4)
  have e5 := View.ld_unit_zero off2 inb_S448x98_S448x98_0_0 (arg6.view.read (Elt F) f5)
  have e6 := View.ld_unit_zero off2 inb_S448x1_S448x1_0_0 (arg7.view.read (Elt F) f6)
  have e7 := View.ld_unit_zero off2 inb_S448x1_S448x1_0_0 (arg8.view.read (Elt F) f7)
  rw [← e0, ← e1, ← e2, ← e3, ← e4, ← e5, ← e6, ← e7]
  have eS := View.ld_unit_zero off2 inb_S448x1024_S448x1024_0_0 (arg11.view.read (Elt F) (arg11.view.writes (Elt F) fs
    [⟨Rect.unit (s := S448x1024) (k1_off1 i) S448x256.size (k1_off1_inb i),
      k1_pay1 (View.ld (arg1.view.read (Elt F) f0) (Rect.unit ![0, 0] S448x7744.size inb_S448x7744_S448x7744_0_0))
        (View.ld (arg2.view.read (Elt F) f1) (Rect.unit ![0, 0] S256x7744.size inb_S256x7744_S256x7744_0_0))⟩]))
  iexists _
  isplitr
  · ipureintro
    exact sliceStored arg11.view fs i _
  rw [← eS]
  isplitl [H8]
  · iexists _; isplitr
    swap; · iexact H8
    ipureintro
    exact (read_full_store2 _ _ off2 _ _).trans rfl
  isplitl [H9]
  · iexists _; isplitr
    swap; · iexact H9
    ipureintro
    exact (read_full_store2 _ _ off2 _ _).trans rfl
  iexists _; isplitr
  swap; · iexact HS
  ipureintro
  exact eS.symm

end Cert.KernelIdeal.Stage
-- ==== Proof.KernelIdeal.FcData.lean ====
/- The classifier stage over the buffer contents `V` it is entered with: the product its scratch collects, the invariant
   between points, its proof data and its body obligation. -/
module

public import proofs.«01_k».proof.Proof.KernelIdeal.FcBody

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array. -/
def fcIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product of the features with the 256 rows of the first weights that point `t` holds. -/
def fcSlice (c : Dev nD) (t : Fin cfg1.N) : Vec F S448x256 .f32 := k1_pay1 (fcIn V c 0 t) (fcIn V c 1 t)

/-- The point that stores column `q`. -/
def colPoint (y : S448x1024.Idx) : Fin cfg1.N :=
  ⟨(y 1).val / 256, by have h : (y 1).val < 1024 := (y 1).isLt; have e : cfg1.N = 4 := N_1; omega⟩
/-- Where in that point's slice it lies. -/
def colLocal (y : S448x1024.Idx) : S448x256.Idx
  | ⟨0, _⟩ => (y 0)
  | ⟨1, _⟩ => ⟨(y 1).val % 256, Nat.mod_lt _ (by decide)⟩

/-- The whole product, slice by slice. -/
def fcHidden (c : Dev nD) : Vec F S448x1024 .f32 := fun y => fcSlice V c (colPoint y) (colLocal y)

theorem coord1 (t : Fin cfg1.N) : (grid1.coords t 0).val = t.val := by
  have ht : t.val < 4 := Nat.lt_of_lt_of_eq t.isLt N_1
  have e0 : (grid1.coords t 0).val = t.val / 1 % 4 := Pipeline.Grid.coords_val t 0 (by decide) rfl
  omega

/-- The condition under which the results are stored holds at the last point only. -/
theorem last_iff (t : Fin cfg1.N) : k1_cond1 (grid1.coords t) = 1#1 ↔ t.val = 3 := by
  have ht : t.val < 4 := Nat.lt_of_lt_of_eq t.isLt N_1
  have e0 : (grid1.coords t 0).val = t.val := coord1 t
  have h : ∀ n : Fin 4, (Scalar.cmpi .ne (Scalar.extui (Scalar.cmpi .eq (BitVec.ofNat 32 n.val) 3#32) : BitVec 32) 0#32 = 1#1) ↔ n.val = 3 := by decide
  exact (h (grid1.coords t 0)).trans (by rw [e0])

/-- The columns before point `n`'s slice hold the product. -/
def Filled (c : Dev nD) (n : ℕ) (d : Vec F S448x1024 .f32) : Prop := ∀ y : S448x1024.Idx, (y 1).val < 256 * n → d y = fcHidden V c y

theorem filled_zero (c : Dev nD) (d : Vec F S448x1024 .f32) : Filled V c 0 d := fun y h => absurd h (by omega)

theorem filled_step (c : Dev nD) (t : Fin cfg1.N) (d d' : Vec F S448x1024 .f32) (h : Filled V c t.val d)
    (hs : SliceStored (grid1.coords t) (k1_pay1 (fcIn V c 0 t) (fcIn V c 1 t)) d d') : Filled V c (t.val + 1) d' := by
  have e := coord1 t
  intro y hy
  by_cases hl : (y 1).val < 256 * t.val
  · rw [hs.2 y (by rw [e]; exact hl)]; exact h y hl
  · have ht : colPoint y = t := Fin.ext (by show (y 1).val / 256 = t.val; omega)
    rw [hs.1 y (colLocal y) rfl (by rw [e]; show (y 1).val = 256 * t.val + (y 1).val % 256; omega)]
    unfold fcHidden fcSlice; rw [ht]

/-- After the last slice the scratch is the product. -/
theorem filled_all (c : Dev nD) (d : Vec F S448x1024 .f32) (h : Filled V c 4 d) : d = fcHidden V c :=
  funext fun y => h y (by have h : (y 1).val < 1024 := (y 1).isLt; omega)

/-- The scratch as a memref. -/
abbrev scr : Memref sig .tc .vmem S448x1024 .f32 := Memref.whole cc1_scratch0

/-- The other stage's scoped buffers, at any contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- What is carried between points: the scratch with the columns before `n`'s slice filled, the buffers the stage does
    not use, the generator register at some state. -/
def fcInv (c : Dev nD) (n : ℕ) : sProp 𝕄 :=
  iprop((∃ d, ⌜Filled V c n d⌝ ∗ owns (c : Thread nD τ) scr fullShare d) ∗ idleBufs c ∗ ∃ r, prngReg c r)

/-- The stage's scoped rest gives the invariant at the first point, -/
theorem fcInv_enter (c : Dev nD) : (Pipeline.ΦA spec1 c : sProp 𝕄) ⊢ fcInv V c 0 := by
  unfold Pipeline.ΦA fcInv idleBufs; rw [scopedRest1_eq]; simp only [scr, owns_whole]
  iintro ⟨⟨H0, H1, H2, H3, H4, H5, H6, H7, ⟨%f, HS⟩⟩, Hg⟩
  isplitl [HS]
  · iexists f; isplitr; · ipureintro; exact filled_zero V c f
    iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- and gets it back from the invariant at any point. -/
theorem fcInv_leave (c : Dev nD) (n : ℕ) : fcInv V c n ⊢ (Pipeline.ΦA spec1 c : sProp 𝕄) := by
  unfold Pipeline.ΦA fcInv idleBufs; rw [scopedRest1_eq]; simp only [scr, owns_whole]
  iintro ⟨⟨%f, -, HS⟩, ⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f; iexact HS
  iexact Hg

/-- The masked symbol block and the membership block the last point stores. -/
def fcOutSym (c : Dev nD) (t : Fin cfg1.N) : Vec F S448x14 .f32 :=
  fcSymbol (fcHidden V c) (fcIn V c 2 t) (fcIn V c 3 t) (fcIn V c 4 t) (fcIn V c 5 t) (fcIn V c 6 t) (fcIn V c 7 t)
def fcOutMem (c : Dev nD) (t : Fin cfg1.N) : Vec F S448x14 .f32 :=
  fcMember (fcHidden V c) (fcIn V c 2 t) (fcIn V c 3 t) (fcIn V c 4 t) (fcIn V c 5 t)

/-- The proof data of the classifier stage. -/
def fcDat (c : Dev nD) : Dat τ (Elt F) Unit ℕ (UR sig nD τ) ℕ cfg1 c where
  A w := V c (Pipeline.arrRef spec1 w)
  after w t := match w with
    | ⟨0, _⟩ => fcIn V c 0 t
    | ⟨1, _⟩ => fcIn V c 1 t
    | ⟨2, _⟩ => fcIn V c 2 t
    | ⟨3, _⟩ => fcIn V c 3 t
    | ⟨4, _⟩ => fcIn V c 4 t
    | ⟨5, _⟩ => fcIn V c 5 t
    | ⟨6, _⟩ => fcIn V c 6 t
    | ⟨7, _⟩ => fcIn V c 7 t
    | ⟨8, _⟩ => fcOutSym V c t
    | ⟨9, _⟩ => fcOutMem V c t
  Φ n := fcInv V c n.val
  q _ := fullShare
  owed _ := 0

theorem fcDat_A (c : Dev nD) (w : Fin cfg1.W) : (fcDat V c).A w = V c (Pipeline.arrRef spec1 w) := by
  dsimp only [fcDat]
theorem fcDat_after0 (c : Dev nD) (t : Fin cfg1.N) : (fcDat V c).after 0 t = fcIn V c 0 t := by dsimp only [fcDat]
theorem fcDat_after1 (c : Dev nD) (t : Fin cfg1.N) : (fcDat V c).after 1 t = fcIn V c 1 t := by dsimp only [fcDat]
theorem fcDat_after2 (c : Dev nD) (t : Fin cfg1.N) : (fcDat V c).after 2 t = fcIn V c 2 t := by dsimp only [fcDat]
theorem fcDat_after3 (c : Dev nD) (t : Fin cfg1.N) : (fcDat V c).after 3 t = fcIn V c 3 t := by dsimp only [fcDat]
theorem fcDat_after4 (c : Dev nD) (t : Fin cfg1.N) : (fcDat V c).after 4 t = fcIn V c 4 t := by dsimp only [fcDat]
theorem fcDat_after5 (c : Dev nD) (t : Fin cfg1.N) : (fcDat V c).after 5 t = fcIn V c 5 t := by dsimp only [fcDat]
theorem fcDat_after6 (c : Dev nD) (t : Fin cfg1.N) : (fcDat V c).after 6 t = fcIn V c 6 t := by dsimp only [fcDat]
theorem fcDat_after7 (c : Dev nD) (t : Fin cfg1.N) : (fcDat V c).after 7 t = fcIn V c 7 t := by dsimp only [fcDat]
theorem fcDat_after8 (c : Dev nD) (t : Fin cfg1.N) : (fcDat V c).after 8 t = fcOutSym V c t := by dsimp only [fcDat]
theorem fcDat_after9 (c : Dev nD) (t : Fin cfg1.N) : (fcDat V c).after 9 t = fcOutMem V c t := by dsimp only [fcDat]

/-- Each input window's buffer holds its block at every point, whether fetched there or kept from the point before. -/
theorem fcDat_before0 (c : Dev nD) (t : Fin cfg1.N) (d) : (fcDat V c).before 0 t d = fcIn V c 0 t :=
  (fcDat V c).before_in_eq_fetched 0 rfl (fun _ => rfl) (fun _ _ _ => rfl) (fun _ => rfl) t d
theorem fcDat_before1 (c : Dev nD) (t : Fin cfg1.N) (d) : (fcDat V c).before 1 t d = fcIn V c 1 t :=
  (fcDat V c).before_in_eq_fetched 1 rfl (fun _ => rfl) (fun _ _ _ => rfl) (fun _ => rfl) t d
theorem fcDat_before2 (c : Dev nD) (t : Fin cfg1.N) (d) : (fcDat V c).before 2 t d = fcIn V c 2 t :=
  (fcDat V c).before_in_eq_fetched 2 rfl (fun _ => rfl) (fun _ _ _ => rfl) (fun _ => rfl) t d
theorem fcDat_before3 (c : Dev nD) (t : Fin cfg1.N) (d) : (fcDat V c).before 3 t d = fcIn V c 3 t :=
  (fcDat V c).before_in_eq_fetched 3 rfl (fun _ => rfl) (fun _ _ _ => rfl) (fun _ => rfl) t d
theorem fcDat_before4 (c : Dev nD) (t : Fin cfg1.N) (d) : (fcDat V c).before 4 t d = fcIn V c 4 t :=
  (fcDat V c).before_in_eq_fetched 4 rfl (fun _ => rfl) (fun _ _ _ => rfl) (fun _ => rfl) t d
theorem fcDat_before5 (c : Dev nD) (t : Fin cfg1.N) (d) : (fcDat V c).before 5 t d = fcIn V c 5 t :=
  (fcDat V c).before_in_eq_fetched 5 rfl (fun _ => rfl) (fun _ _ _ => rfl) (fun _ => rfl) t d
theorem fcDat_before6 (c : Dev nD) (t : Fin cfg1.N) (d) : (fcDat V c).before 6 t d = fcIn V c 6 t :=
  (fcDat V c).before_in_eq_fetched 6 rfl (fun _ => rfl) (fun _ _ _ => rfl) (fun _ => rfl) t d
theorem fcDat_before7 (c : Dev nD) (t : Fin cfg1.N) (d) : (fcDat V c).before 7 t d = fcIn V c 7 t :=
  (fcDat V c).before_in_eq_fetched 7 rfl (fun _ => rfl) (fun _ _ _ => rfl) (fun _ => rfl) t d

/-- Before the last point neither result window is stored or written back. -/
theorem idle8 (t : Fin cfg1.N) (h : ¬ t.val = 3) : cfg1.idle 8 (cfg1.grid.coords t) = true := by
  show (!(k1_cond1 (grid1.coords t) == 1#1)) = true
  simp only [Bool.not_eq_true', beq_eq_false_iff_ne]; exact fun e => h ((last_iff t).mp e)
theorem idle9 (t : Fin cfg1.N) (h : ¬ t.val = 3) : cfg1.idle 9 (cfg1.grid.coords t) = true := idle8 t h
theorem live8 (t : Fin cfg1.N) (h : t.val = 3) : cfg1.idle 8 (cfg1.grid.coords t) = false := by
  show (!(k1_cond1 (grid1.coords t) == 1#1)) = false
  simp only [Bool.not_eq_false', beq_iff_eq]; exact (last_iff t).mpr h
theorem live9 (t : Fin cfg1.N) (h : t.val = 3) : cfg1.idle 9 (cfg1.grid.coords t) = false := live8 t h
theorem noflush8 (t : Fin cfg1.N) (h : ¬ t.val = 3) : (cfg1.win 8).flush t = false :=
  Bool.eq_false_iff.mpr fun e => by
    have := (flush1_8 t).mp e; have ht : t.val < 4 := Nat.lt_of_lt_of_eq t.isLt N_1; omega
theorem noflush9 (t : Fin cfg1.N) (h : ¬ t.val = 3) : (cfg1.win 9).flush t = false :=
  Bool.eq_false_iff.mpr fun e => by
    have := (flush1_9 t).mp e; have ht : t.val < 4 := Nat.lt_of_lt_of_eq t.isLt N_1; omega

set_option maxHeartbeats 1000000 in
/-- The body at a generic point, from the invariant and the windows' buffers to the same after the point. -/
theorem fc_point (c : Dev nD) (t : Fin cfg1.N) :
    iprop((fcDat V c).Φ t.castSucc ∗ (fcDat V c).owesAt () t.castSucc
      ∗ (∃ d, owns (c : Thread nD τ) (st1_0 t) fullShare ((fcDat V c).before 0 t d))
      ∗ (∃ d, owns (c : Thread nD τ) (st1_1 t) fullShare ((fcDat V c).before 1 t d))
      ∗ (∃ d, owns (c : Thread nD τ) (st1_2 t) fullShare ((fcDat V c).before 2 t d))
      ∗ (∃ d, owns (c : Thread nD τ) (st1_3 t) fullShare ((fcDat V c).before 3 t d))
      ∗ (∃ d, owns (c : Thread nD τ) (st1_4 t) fullShare ((fcDat V c).before 4 t d))
      ∗ (∃ d, owns (c : Thread nD τ) (st1_5 t) fullShare ((fcDat V c).before 5 t d))
      ∗ (∃ d, owns (c : Thread nD τ) (st1_6 t) fullShare ((fcDat V c).before 6 t d))
      ∗ (∃ d, owns (c : Thread nD τ) (st1_7 t) fullShare ((fcDat V c).before 7 t d))
      ∗ (∃ d, owns (c : Thread nD τ) (st1_8 t) fullShare ((fcDat V c).before 8 t d))
      ∗ (∃ d, owns (c : Thread nD τ) (st1_9 t) fullShare ((fcDat V c).before 9 t d)))
    ⊢ wp frame (wpE (defs₀ (F := F)) Variants.none c none) Set.univ (bodyAt1 t) (fun _ =>
      iprop((fcDat V c).Φ t.succ ∗ (fcDat V c).owesAt () t.succ
        ∗ owns (c : Thread nD τ) (st1_0 t) fullShare ((fcDat V c).after 0 t)
        ∗ owns (c : Thread nD τ) (st1_1 t) fullShare ((fcDat V c).after 1 t)
        ∗ owns (c : Thread nD τ) (st1_2 t) fullShare ((fcDat V c).after 2 t)
        ∗ owns (c : Thread nD τ) (st1_3 t) fullShare ((fcDat V c).after 3 t)
        ∗ owns (c : Thread nD τ) (st1_4 t) fullShare ((fcDat V c).after 4 t)
        ∗ owns (c : Thread nD τ) (st1_5 t) fullShare ((fcDat V c).after 5 t)
        ∗ owns (c : Thread nD τ) (st1_6 t) fullShare ((fcDat V c).after 6 t)
        ∗ owns (c : Thread nD τ) (st1_7 t) fullShare ((fcDat V c).after 7 t)
        ∗ (fcDat V c).leavesExact 8 t
        ∗ (fcDat V c).leavesExact 9 t)) := by
  unfold bodyAt1
  simp only [fcDat_before0, fcDat_before1, fcDat_before2, fcDat_before3, fcDat_before4, fcDat_before5, fcDat_before6, fcDat_before7]
  rw [show (fcDat V c).Φ t.succ = fcInv V c (t.val + 1) from rfl, show (fcDat V c).Φ t.castSucc = fcInv V c t.val from rfl,
    show (fcDat V c).owesAt () t.succ = (fcDat V c).owesAt () t.castSucc from rfl, fcDat_after0, fcDat_after1,
    fcDat_after2, fcDat_after3, fcDat_after4, fcDat_after5, fcDat_after6, fcDat_after7]
  unfold fcInv
  by_cases h3 : t.val = 3
  · rw [show (fcDat V c).leavesExact 8 t = owns (c : Thread nD τ) (st1_8 t) fullShare ((fcDat V c).after 8 t) from by
        unfold Dat.leavesExact; rw [live8 t h3],
      show (fcDat V c).leavesExact 9 t = owns (c : Thread nD τ) (st1_9 t) fullShare ((fcDat V c).after 9 t) from by
        unfold Dat.leavesExact; rw [live9 t h3], fcDat_after8, fcDat_after9]
    iintro ⟨⟨⟨%d, %hd, HS⟩, Hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fc_triple_last c Set.univ (grid1.coords t) _ _ _ _ _ _ _ _ _ _ _ _ _ _ _ _ _ _ _ _ _ _ ((last_iff t).mpr h3)
      (fcIn V c 0 t) (fcIn V c 1 t) (fcIn V c 2 t) (fcIn V c 3 t) (fcIn V c 4 t) (fcIn V c 5 t) (fcIn V c 6 t) (fcIn V c 7 t) d _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, ⟨%d', %hs, H8, H9, HS⟩⟩
    have hd' : Filled V c (t.val + 1) d' := filled_step V c t d d' hd hs
    have e : d' = fcHidden V c := filled_all V c d' (by rw [h3] at hd'; exact hd')
    subst e
    isplitl [HS Hi Hg]
    · isplitl [HS]
      · iexists _; isplitr; · ipureintro; exact hd'
        iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold fcOutSym; iexact H8
    unfold fcOutMem; iexact H9
  · rw [(fcDat V c).leavesExact_idle 8 t (idle8 t h3) (noflush8 t h3), (fcDat V c).leavesExact_idle 9 t (idle9 t h3) (noflush9 t h3)]
    iintro ⟨⟨⟨%d, %hd, HS⟩, Hi, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (fc_triple_mid c Set.univ (grid1.coords t) _ _ _ _ _ _ _ _ _ _ _ _ _ _ _ _ _ _ _ _ _ _ (fun e => h3 ((last_iff t).mp e))
      (fcIn V c 0 t) (fcIn V c 1 t) d _)
    isplitl [H0]; · iexact H0
    isplitl [H1]; · iexact H1
    isplitl [HS]; · iexact HS
    iintro ⟨H0, H1, ⟨%d', %hs, HS⟩⟩
    isplitl [HS Hi Hg]
    · isplitl [HS]
      · iexists d'; isplitr; · ipureintro; exact filled_step V c t d d' hd hs
        iexact HS
      isplitl [Hi]; · iexact Hi
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem fc_row (t : Fin cfg1.N) :
    defs₀ (F := F) .tc cfg1.body (cfg1.bodyArgs t (cfg1.slots t)) = bodyAt1 t := by
  unfold defs₀; rw [Defs.onTc_tc]

/-- The classifier stage meets its body obligation at every point. -/
theorem fc_obligation (c : Dev nD) : BodyObligation (fcDat (F := F) V c) (defs₀ (F := F)) Variants.none () Set.univ := fun t => by
  rw [bigSep_W1, bigSep_W1, fc_row]
  exact triple_restated (fc_point V c t) rfl .rfl fun _ => .rfl

end Cert.KernelIdeal.Stage
-- ==== Proof.KernelIdeal.Run.lean ====
/- The whole program: the contents of every buffer between @main's items, the two calls and the host stretches as
   segments, and the run: it ends, with every array at the last contents and every semaphore at zero. -/
module

public import proofs.«01_k».proof.Proof.KernelIdeal.FeatBody
public import proofs.«01_k».proof.Proof.KernelIdeal.FcData
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Stage

open Cert.KernelIdeal.Gen (hostOps0 hostOps1 hostOps1_1 hostOps1_2 hostOps2 hostOps0_W hostOps1_W hostOps1_1_W hostOps1_2_W hostOps2_W
  hostOps0_sub hostOps1_sub hostOps1_1_sub hostOps1_2_sub hostOps2_sub hostOps0_fresh hostOps1_fresh hostOps1_1_fresh hostOps1_2_fresh
  hostOps2_fresh hostOps0_writes hostOps1_writes hostOps1_1_writes hostOps1_2_writes hostOps2_writes launch0 launch1 main_chain
  cellOf_inj adm)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between items -/

/-- The contents at the launch, and after the host operations before the feature stage. -/
abbrev atLaunch (c : Dev nD) : Valuation τ sig (Elt F) := fun b => m (c, b)
abbrev toFeat (c : Dev nD) : Valuation τ sig (Elt F) := StableHlo.after hostOps0 (atLaunch m c)
/-- After the feature stage: its arrays at what it leaves in them. -/
def pastFeat (c : Dev nD) : Valuation τ sig (Elt F) :=
  Pipeline.withArrays spec0 c (toFeat m c) fun w => (featDat (fun c b => toFeat m c b) c).arrAt w cfg0.N
/-- After each of the three host stretches between the stages. -/
abbrev toNoise (c : Dev nD) : Valuation τ sig (Elt F) := StableHlo.after hostOps1 (pastFeat m c)
abbrev pastNoise (c : Dev nD) : Valuation τ sig (Elt F) := StableHlo.after hostOps1_1 (toNoise m c)
abbrev toFc (c : Dev nD) : Valuation τ sig (Elt F) := StableHlo.after hostOps1_2 (pastNoise m c)
/-- After the classifier stage, and at the return. -/
def pastFc (c : Dev nD) : Valuation τ sig (Elt F) :=
  Pipeline.withArrays spec1 c (toFc m c) fun w => (fcDat (fun c b => toFc m c b) c).arrAt w cfg1.N
abbrev atReturn (c : Dev nD) : Valuation τ sig (Elt F) := StableHlo.after hostOps2 (pastFc m c)

theorem pastFeat_arr (c : Dev nD) (w : Fin cfg0.W) :
    pastFeat m c (Proc.devRef .tc (Pipeline.arrRef spec0 w)) = (featDat (fun c b => toFeat m c b) c).arrAt w cfg0.N := by
  unfold pastFeat; exact Pipeline.withArrays_arr spec0 launch0.win.arr_inj c _ _ w
theorem pastFeat_else (c : Dev nD) (b : Ref sig .tc) (hb : ∀ w, Pipeline.arrRef spec0 w ≠ b) :
    pastFeat m c (Proc.devRef .tc b) = toFeat m c (Proc.devRef .tc b) := by
  unfold pastFeat; exact Pipeline.withArrays_of_ne spec0 c _ _ b hb
theorem pastFc_arr (c : Dev nD) (w : Fin cfg1.W) :
    pastFc m c (Proc.devRef .tc (Pipeline.arrRef spec1 w)) = (fcDat (fun c b => toFc m c b) c).arrAt w cfg1.N := by
  unfold pastFc; exact Pipeline.withArrays_arr spec1 launch1.win.arr_inj c _ _ w
theorem pastFc_else (c : Dev nD) (b : Ref sig .tc) (hb : ∀ w, Pipeline.arrRef spec1 w ≠ b) :
    pastFc m c (Proc.devRef .tc b) = toFc m c (Proc.devRef .tc b) := by
  unfold pastFc; exact Pipeline.withArrays_of_ne spec1 c _ _ b hb

/-- The feature stage changes only its output array, -/
theorem pastFeat_of (c : Dev nD) (r : Ref sig .tc) (h : ∀ w : Fin cfg0.W, Pipeline.arrRef spec0 w = r → (cfg0.win w).isOut = false) :
    pastFeat m c (Proc.devRef .tc r) = toFeat m c (Proc.devRef .tc r) := by
  by_cases hw : ∃ w : Fin cfg0.W, Pipeline.arrRef spec0 w = r
  · obtain ⟨w, e⟩ := hw
    rw [← e]
    exact (pastFeat_arr m c w).trans (((featDat (fun c b => toFeat m c b) c).arrAt_in w (h w e) _).trans (featDat_A _ c w))
  · exact pastFeat_else m c r fun w e => hw ⟨w, e⟩
/-- and the classifier stage only its two. -/
theorem pastFc_of (c : Dev nD) (r : Ref sig .tc) (h : ∀ w : Fin cfg1.W, Pipeline.arrRef spec1 w = r → (cfg1.win w).isOut = false) :
    pastFc m c (Proc.devRef .tc r) = toFc m c (Proc.devRef .tc r) := by
  by_cases hw : ∃ w : Fin cfg1.W, Pipeline.arrRef spec1 w = r
  · obtain ⟨w, e⟩ := hw
    rw [← e]
    exact (pastFc_arr m c w).trans (((fcDat (fun c b => toFc m c b) c).arrAt_in w (h w e) _).trans (fcDat_A _ c w))
  · exact pastFc_else m c r fun w e => hw ⟨w, e⟩

/-! ## The arguments keep their contents -/

/-- The argument arrays. -/
abbrev args : List (Ref sig .tc) :=
  [main_arg0, main_arg1, main_arg2, main_arg3, main_arg4, main_arg5, main_arg6, main_arg7, main_arg8, main_arg9]

theorem args_feat : ∀ a ∈ args, ∀ w : Fin cfg0.W, Pipeline.arrRef spec0 w = a → (cfg0.win w).isOut = false :=
  ListAll.forall_mem_of_all_decide (by decide +kernel)
theorem args_fc : ∀ a ∈ args, ∀ w : Fin cfg1.W, Pipeline.arrRef spec1 w = a → (cfg1.win w).isOut = false :=
  ListAll.forall_mem_of_all_decide (by decide +kernel)
theorem args_ops0 : ∀ a ∈ args, a ∉ hostOps0_W := ListAll.forall_mem_of_all_decide (by decide +kernel)
theorem args_ops1 : ∀ a ∈ args, a ∉ hostOps1_W := ListAll.forall_mem_of_all_decide (by decide +kernel)
theorem args_ops1_1 : ∀ a ∈ args, a ∉ hostOps1_1_W := ListAll.forall_mem_of_all_decide (by decide +kernel)
theorem args_ops1_2 : ∀ a ∈ args, a ∉ hostOps1_2_W := ListAll.forall_mem_of_all_decide (by decide +kernel)
theorem args_ops2 : ∀ a ∈ args, a ∉ hostOps2_W := ListAll.forall_mem_of_all_decide (by decide +kernel)

theorem toFeat_arg (c : Dev nD) (a : Ref sig .tc) (ha : a ∈ args) : toFeat m c (Proc.devRef .tc a) = m ((c : Thread nD τ).loc a) :=
  StableHlo.after_of_writes_sub hostOps0 _ hostOps0_writes (args_ops0 a ha)
theorem pastFeat_arg (c : Dev nD) (a : Ref sig .tc) (ha : a ∈ args) : pastFeat m c (Proc.devRef .tc a) = m ((c : Thread nD τ).loc a) :=
  (pastFeat_of m c a (args_feat a ha)).trans (toFeat_arg m c a ha)
theorem toFc_arg (c : Dev nD) (a : Ref sig .tc) (ha : a ∈ args) : toFc m c (Proc.devRef .tc a) = m ((c : Thread nD τ).loc a) :=
  (StableHlo.after_of_writes_sub hostOps1_2 _ hostOps1_2_writes (args_ops1_2 a ha)).trans
    ((StableHlo.after_of_writes_sub hostOps1_1 _ hostOps1_1_writes (args_ops1_1 a ha)).trans
      ((StableHlo.after_of_writes_sub hostOps1 _ hostOps1_writes (args_ops1 a ha)).trans (pastFeat_arg m c a ha)))
/-- Every argument ends as it was launched. -/
theorem atReturn_arg (c : Dev nD) (a : Ref sig .tc) (ha : a ∈ args) : atReturn m c (Proc.devRef .tc a) = m ((c : Thread nD τ).loc a) :=
  (StableHlo.after_of_writes_sub hostOps2 _ hostOps2_writes (args_ops2 a ha)).trans
    ((pastFc_of m c a (args_fc a ha)).trans (toFc_arg m c a ha))

/-! ## The segments -/

/-- Both stages' proof data, each at the contents its stage is entered with. -/
def stageDat : (p : Fin 2) → (c : Dev nD) → Dat τ (Elt F) Unit ℕ (UR sig nD τ) ℕ (Pipeline.pin (pcfgs (F := F)) adm p) c
  | ⟨0, _⟩ => fun c => featDat (fun c b => toFeat m c b) c
  | ⟨1, _⟩ => fun c => fcDat (fun c b => toFc m c b) c
/-- No core owes another anything. -/
abbrev noSems : GSem nD τ sig → Finset Unit := fun _ => ∅
abbrev noLevels : GSem nD τ sig → Unit → ℕ := fun _ _ => 0
/-- What rides beside the buffers: the generator register at some state, nothing owed. -/
abbrev beside (c : Dev nD) : sProp 𝕄 := iprop((∃ r, prngReg c r) ∗ ∃ W, owes (c : Thread nD τ) (0 : CellTallies nD τ sig Unit) W)
/-- Every unscoped buffer at the contents `W`, and what rides beside. -/
abbrev holds (W : Dev nD → Valuation τ sig (Elt F)) (c : Dev nD) : sProp 𝕄 :=
  iprop(StableHlo.held (c : Thread nD τ) (Pipeline.ucRefs τ sig) (W c) ∗ beside c)
/-- A host stretch as a segment entered at the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noSems noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The feature stage as a segment. -/
def featSeg : Pipeline.RegionSeg (pcfgs (F := F)) adm (stageDat m) () defs₀ Variants.none noSems noLevels 0 where
  win := launch0.win.to₀
  block_pos := launch0.block_pos
  stage_whole := launch0.stage_whole
  K := PEmpty
  osem k := k.elim
  ho := Pipeline.OwnSemFacts.none _
  hbody c := (feat_obligation (fun c b => toFeat m c b) c).loose
  hwaits := Pipeline.hwaits_of_owed_zero _ _ _ _ noSems noLevels 0 fun _ _ => rfl
  pre := holds (toFeat m)
  post := holds (pastFeat m)
  X c := iprop(∃ r, prngReg c r)
  Y c := iprop(∃ r, prngReg c r)
  Z c := Pipeline.unscopedRest (Ix := Unit) (Name := ℕ) (U := UR sig nD τ) (Lvl := ℕ) spec0 c (fun b => toFeat m c b)
  hentry c := by
    rw [Pipeline.ownSems0_none]
    have hsplit := Pipeline.arrays_of_unscopedBufs (p := 0) (pcfgs (F := F)) adm (stageDat m) launch0.win launch0.arr_whole c
      ((stageDat m 0 c).share_full fun _ => rfl) (fun b => toFeat m c b) (featDat_A (fun c b => toFeat m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageDat m 0 c).Φ 0 = Pipeline.ΦA spec0 c from rfl]; unfold Pipeline.ΦA
    iintro ⟨Hp, -, Hr⟩
    isplitl [Hr]; · iexact Hr
    iexact Hp
  hout c := by
    rw [Pipeline.ownSems0_none, show (stageDat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (stageDat m) ((stageDat m 0 c).share_full fun _ => rfl)
      (fun b => toFeat m c b) (fun b => pastFeat m c b) ((stageDat m 0 c).arrAt · cfg0.N) (fun w => (pastFeat_arr m c w).symm)
      (fun b hb => pastFeat_else m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The classifier stage as a segment: its invariant is entered with no column filled, and its scratch forgotten at the end. -/
def fcSeg : Pipeline.RegionSeg (pcfgs (F := F)) adm (stageDat m) () defs₀ Variants.none noSems noLevels 1 where
  win := launch1.win.to₀
  block_pos := launch1.block_pos
  stage_whole := launch1.stage_whole
  K := PEmpty
  osem k := k.elim
  ho := Pipeline.OwnSemFacts.none _
  hbody c := (fc_obligation (fun c b => toFc m c b) c).loose
  hwaits := Pipeline.hwaits_of_owed_zero _ _ _ _ noSems noLevels 1 fun _ _ => rfl
  pre := holds (toFc m)
  post := holds (pastFc m)
  X c := iprop(∃ r, prngReg c r)
  Y c := iprop(∃ r, prngReg c r)
  Z c := Pipeline.unscopedRest (Ix := Unit) (Name := ℕ) (U := UR sig nD τ) (Lvl := ℕ) spec1 c (fun b => toFc m c b)
  hentry c := by
    rw [Pipeline.ownSems0_none]
    have hsplit := Pipeline.arrays_of_unscopedBufs (p := 1) (pcfgs (F := F)) adm (stageDat m) launch1.win launch1.arr_whole c
      ((stageDat m 1 c).share_full fun _ => rfl) (fun b => toFc m c b) (fcDat_A (fun c b => toFc m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stageDat m 1 c).Φ 0 = fcInv (fun c b => toFc m c b) c 0 from rfl]
    iintro ⟨Hp, -, Hr⟩
    iapply (fcInv_enter (fun c b => toFc m c b) c)
    unfold Pipeline.ΦA
    isplitl [Hr]; · iexact Hr
    iexact Hp
  hout c := by
    rw [Pipeline.ownSems0_none, show (stageDat m 1 c).Φ (Fin.last _) = fcInv (fun c b => toFc m c b) c cfg1.N from rfl]
    iintro H
    ihave H' := (fcInv_leave (fun c b => toFc m c b) c cfg1.N) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (stageDat m) ((stageDat m 1 c).share_full fun _ => rfl)
      (fun b => toFc m c b) (fun b => pastFc m c b) ((stageDat m 1 c).arrAt · cfg1.N) (fun w => (pastFc_arr m c w).symm)
      (fun b hb => pastFc_else m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's items in order. -/
abbrev items : List (Pipeline.Seg (pcfgs (F := F)) adm (stageDat m) () defs₀ Variants.none noSems noLevels) :=
  [ .host (stretch hostOps0 hostOps0_sub hostOps0_fresh (atLaunch m)),
    .region (featSeg m),
    .host (stretch hostOps1 hostOps1_sub hostOps1_fresh (pastFeat m)),
    .host (stretch hostOps1_1 hostOps1_1_sub hostOps1_1_fresh (toNoise m)),
    .host (stretch hostOps1_2 hostOps1_2_sub hostOps1_2_fresh (pastNoise m)),
    .region (fcSeg m),
    .host (stretch hostOps2 hostOps2_sub hostOps2_fresh (pastFc m)) ]

theorem main_items (c : Dev nD) : main (F := F) c = Pipeline.Seg.run (items m) := by
  rewrite [main_chain c, Pipeline.Seg.run_eq_chain, show (items m).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2 ] from rfl]
  rfl

theorem all_scoped : ∀ sm : SemLoc sig, sm.isScoped .tc = true := by decide

set_option backward.isDefEq.respectTransparency.types false in
/-- From any memory with zero counters the program ends, every unscoped buffer at the contents `atReturn` and every
    semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = atReturn m c b) ∧ r.2.sem = fun _ => 0) :=
  Pipeline.θ_run_regions_kit_sems (pcfgs (F := F)) adm (stageDat m) () cellOf_inj emb₁ defs₀ Variants.none noSems noLevels m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := holds (atLaunch m))
    (Tₙ := fun c => iprop(StableHlo.held (c : Thread nD τ) (Pipeline.ucRefs τ sig) (atReturn m c) ∗ ∃ r, prngReg c r))
    (hch := ⟨fun _ => .rfl, fun _ => .rfl, fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noSems noLevels fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atReturn m c b)
    (hfin := fun c s' => by
      iintro ⟨⟨Hh, -⟩, HSI⟩
      unfold StableHlo.held
      imodintro
      iapply (pointsTo_read_all (Pipeline.ucRefs τ sig) (fun b => (((c : Thread nD τ)).1, b)) (atReturn m c) s')
      isplitl [Hh] <;> iassumption)
    (hQ := fun s h hz => ⟨h, funext fun g => hz g (.inr (all_scoped g.2))⟩)

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    have arg (a : Ref sig .tc) (hu : ¬ (Proc.devRef .tc a : DevRef τ sig).isScoped) (ha : a ∈ args) :
        r.2.mem ((c.tc : Thread nD τ).loc a) = m ((c.tc : Thread nD τ).loc a) :=
      (h.1 c _ (unscoped_mem a hu)).trans (atReturn_arg m c a ha)
    ⟨arg main_arg0 (by decide) (by decide), arg main_arg1 (by decide) (by decide), arg main_arg2 (by decide) (by decide),
     arg main_arg3 (by decide) (by decide), arg main_arg4 (by decide) (by decide), arg main_arg5 (by decide) (by decide),
     arg main_arg6 (by decide) (by decide), arg main_arg7 (by decide) (by decide), arg main_arg8 (by decide) (by decide),
     arg main_arg9 (by decide) (by decide)⟩, h.2⟩) (run m ρ)

end Cert.KernelIdeal.Stage
-- ==== Proof.Reference.Lines.lean ====
/- The reference as straight lines of host operations: the operations of each function and of each part of @main, read off
   the program. -/
module

public import proofs.«01_k».proof.Proof.Gen.ReferenceIdeal
public import Idealize.ShloMosaic.Lib.StableHlo.RunHlo

@[expose] public section

set_option maxRecDepth 16384

noncomputable section

namespace Cert.ReferenceIdeal.Lines

open Cert.ReferenceIdeal.Gen
open Idealize.ShloMosaic Idealize.ShloMosaic.TcCoe Idealize.ShloMosaic.StableHlo Idealize.SL.Sem

variable {F : FTy → Type} [FloatOps F]

/-- A host program over this module's signature. -/
abbrev HostProg (F : FTy → Type) [FloatOps F] : Type 1 :=
  Prog (TpuEff nD τ sig (Elt F) (Pipeline.Sig Λ₀ (Fin 0) fun p => (pcfgs (F := F) p).Adm) .tc) PUnit.{1}

/-- A list of operations together with the fact that a program is that list run in order. -/
abbrev Line (p : HostProg F) := { ops : List (HloOp τ sig (Elt F)) // IsSeq p ops }

/-- A call that is a line, followed by a line, is a line. -/
theorem isSeq_call {p k : HostProg F} {l l' : List (HloOp τ sig (Elt F))} (h : IsSeq p l) (h' : IsSeq k l') :
    IsSeq (p >>= fun _ => k) (l ++ l') := by
  unfold IsSeq at h h' ⊢
  rw [h, h', seq_append]

def pad (a : TRef sig ⟨S448x1x45x45, .f32⟩) (b : TRef sig ⟨S_, .i32⟩) (φ : fn_pad.Bufs) : Line (fn_pad.body (F := F) a b φ) :=
  by apply Subtype.mk; unfold fn_pad.body; hlo_seq

def relu (a : TRef sig ⟨S448x32x45x45, .f32⟩) (φ : fn_relu.Bufs) : Line (fn_relu.body (F := F) a φ) :=
  by apply Subtype.mk; unfold fn_relu.body; hlo_seq

def pad_0 (a : TRef sig ⟨S448x32x22x22, .f32⟩) (b : TRef sig ⟨S_, .i32⟩) (φ : fn_pad_0.Bufs) : Line (fn_pad_0.body (F := F) a b φ) :=
  by apply Subtype.mk; unfold fn_pad_0.body; hlo_seq

def relu_1 (a : TRef sig ⟨S448x64x22x22, .f32⟩) (φ : fn_relu_1.Bufs) : Line (fn_relu_1.body (F := F) a φ) :=
  by apply Subtype.mk; unfold fn_relu_1.body; hlo_seq

def relu_2 (a : TRef sig ⟨S448x1024, .f32⟩) (φ : fn_relu_2.Bufs) : Line (fn_relu_2.body (F := F) a φ) :=
  by apply Subtype.mk; unfold fn_relu_2.body; hlo_seq

def clip (a : TRef sig ⟨S64x7x14, .f32⟩) (b c : TRef sig ⟨S_, .f32⟩) (φ : fn_clip.Bufs) : Line (fn_clip.body (F := F) a b c φ) :=
  by apply Subtype.mk; unfold fn_clip.body; hlo_seq

section
variable (a b : TRef sig ⟨S_, .i32⟩) (c d : TRef sig ⟨S64x7x7x14, .i32⟩) (φ : fn_threefry2x32.Bufs)

def bits0 : Line (fn_threefry2x32.body_part0 (F := F) a b c d φ) := by apply Subtype.mk; unfold fn_threefry2x32.body_part0; hlo_seq
def bits1 : Line (fn_threefry2x32.body_part1 (F := F) a b c d φ) := by apply Subtype.mk; unfold fn_threefry2x32.body_part1; hlo_seq
def bits2 : Line (fn_threefry2x32.body_part2 (F := F) a b c d φ) := by apply Subtype.mk; unfold fn_threefry2x32.body_part2; hlo_seq
def bits3 : Line (fn_threefry2x32.body_part3 (F := F) a b c d φ) := by apply Subtype.mk; unfold fn_threefry2x32.body_part3; hlo_seq

def bits : Line (fn_threefry2x32.body (F := F) a b c d φ) := by
  apply Subtype.mk
  unfold fn_threefry2x32.body
  repeat (first
      | exact IsSeq.nil | apply IsSeq.cons | exact (bits3 a b c d φ).2
      | refine isSeq_call (bits0 a b c d φ).2 ?_ | refine isSeq_call (bits1 a b c d φ).2 ?_
      | refine isSeq_call (bits2 a b c d φ).2 ?_ | refine isSeq_call (bits3 a b c d φ).2 ?_)

end

def uniform (a : TRef sig ⟨S2, .i32⟩) (b c : TRef sig ⟨S_, .f32⟩) (φ : fn_uniform.Bufs) : Line (fn_uniform.body (F := F) a b c φ) := by
  apply Subtype.mk
  unfold fn_uniform.body
  repeat (first | exact IsSeq.nil | apply IsSeq.cons | refine isSeq_call (bits _ _ _ _ _).2 ?_)

def gumbel (a : TRef sig ⟨S2, .i32⟩) (φ : fn_gumbel.Bufs) : Line (fn_gumbel.body (F := F) a φ) := by
  apply Subtype.mk
  unfold fn_gumbel.body
  repeat (first | exact IsSeq.nil | apply IsSeq.cons | refine isSeq_call (uniform _ _ _ _).2 ?_)

def argmax (a : TRef sig ⟨S64x7x7x14, .f32⟩) (φ : fn_argmax.Bufs) : Line (fn_argmax.body (F := F) a φ) :=
  by apply Subtype.mk; unfold fn_argmax.body; hlo_seq

def one_hot (a : TRef sig ⟨S64x7x7, .i32⟩) (φ : fn_one_hot.Bufs) : Line (fn_one_hot.body (F := F) a φ) :=
  by apply Subtype.mk; unfold fn_one_hot.body; hlo_seq

/-- @main's first part: the first layer, and the second up to its bias. -/
def part0 (d : Dev nD) : Line (main_part0 (F := F) d) := by
  apply Subtype.mk
  unfold main_part0
  repeat (first
      | exact IsSeq.nil | apply IsSeq.cons | refine isSeq_call (pad _ _ _).2 ?_ | refine isSeq_call (relu _ _).2 ?_
      | refine isSeq_call (pad_0 _ _ _).2 ?_)

/-- @main's second part: the rest of the second layer, the classifier, the draws. -/
def part1 (d : Dev nD) : Line (main_part1 (F := F) d) := by
  apply Subtype.mk
  unfold main_part1
  repeat (first
      | exact IsSeq.nil | apply IsSeq.cons | refine isSeq_call (relu_1 _ _).2 ?_ | refine isSeq_call (relu_2 _ _).2 ?_
      | refine isSeq_call (clip _ _ _ _).2 ?_ | refine isSeq_call (gumbel _ _).2 ?_
      | refine isSeq_call (argmax _ _).2 ?_ | refine isSeq_call (one_hot _ _).2 ?_)

/-- @main's last part: the lengths and the results. -/
def part2 (d : Dev nD) : Line (main_part2 (F := F) d) := by apply Subtype.mk; unfold main_part2; hlo_seq

/-- The whole of @main. -/
def all (d : Dev nD) : Line (main (F := F) d) := by
  apply Subtype.mk
  unfold main
  first
      | exact isSeq_call (part0 d).2 (isSeq_call (part1 d).2 (part2 d).2)
      | exact isSeq_call (part0 d).2 (isSeq_call (part1 d).2 (isSeq_call (part2 d).2 IsSeq.nil))

end Cert.ReferenceIdeal.Lines

end
-- ==== Proof.Reference.Run.lean ====
/- The run of the reference: every execution of it ends, with each buffer holding what its line of operations leaves there
   and its arguments as they were. -/
module

public import proofs.«01_k».proof.Proof.Reference.Lines
public import Idealize.ShloMosaic.Lib.Quiescent

@[expose] public section

set_option maxRecDepth 16384

noncomputable section

namespace Cert.ReferenceIdeal.Lines

open Cert.ReferenceIdeal.Gen
open Idealize.ShloMosaic Idealize.ShloMosaic.TcCoe Idealize.ShloMosaic.StableHlo Idealize.SL.Sem

variable {F : FTy → Type} [FloatOps F]

/-- The arguments of @main. -/
abbrev argRefs : List (Ref sig .tc) :=
  [main_arg0, main_arg1, main_arg2, main_arg3, main_arg4, main_arg5, main_arg6, main_arg7, main_arg8, main_arg9]

/-- An operation over whole TensorCore buffers that makes none and writes one that is not an argument. -/
structure Keeps (op : HloOp τ sig (Elt F)) : Prop where
  bufs : op.bufs ⊆ tcRefs τ sig
  fresh : op.fresh = ∅
  writes : ∃ y : Ref sig .tc, op.writes = {Proc.devRef (τ := τ) .tc y} ∧ y ∉ argRefs

theorem keeps_nullary {y : Ref sig .tc} (v : y.ty.Contents (Elt F)) (hy) (h : y ∉ argRefs) : Keeps (nullary (τ := τ) y v hy) :=
  ⟨nullary_bufs_sub .., rfl, ⟨y, nullary_writes .., h⟩⟩

theorem keeps_unary {x y : Ref sig .tc} (f : x.ty.Contents (Elt F) → y.ty.Contents (Elt F)) (hx hy) (h : y ∉ argRefs) :
    Keeps (unary (τ := τ) x y f hx hy) :=
  ⟨unary_bufs_sub .., rfl, ⟨y, unary_writes .., h⟩⟩

theorem keeps_binary {a b y : Ref sig .tc} (f : a.ty.Contents (Elt F) → b.ty.Contents (Elt F) → y.ty.Contents (Elt F)) (ha hb hy)
    (h : y ∉ argRefs) : Keeps (binary (τ := τ) a b y f ha hb hy) :=
  ⟨binary_bufs_sub .., rfl, ⟨y, binary_writes .., h⟩⟩

theorem keeps_reshape {x y : Ref sig .tc} (he hn hx hy) (h : y ∉ argRefs) :
    Keeps (reshape (τ := τ) (Val := Elt F) x y he hn hx hy) :=
  ⟨reshape_bufs_sub .., rfl, ⟨y, reshape_writes .., h⟩⟩

theorem keeps_nary {n : Nat} {y : Ref sig .tc} (xs : Fin n → Ref sig .tc) (f : ((k : Fin n) → (xs k).ty.Contents (Elt F)) → y.ty.Contents (Elt F))
    (hxs hy) (h : y ∉ argRefs) : Keeps (nary (τ := τ) xs y f hxs hy) :=
  ⟨nary_bufs_sub .., rfl, ⟨y, nary_writes .., h⟩⟩

theorem keeps_quaternary {a b c e y : Ref sig .tc}
    (f : a.ty.Contents (Elt F) → b.ty.Contents (Elt F) → c.ty.Contents (Elt F) → e.ty.Contents (Elt F) → y.ty.Contents (Elt F))
    (ha hb hc he hy) (h : y ∉ argRefs) : Keeps (quaternary (τ := τ) a b c e y f ha hb hc he hy) :=
  ⟨quaternary_bufs_sub .., rfl, ⟨y, quaternary_writes .., h⟩⟩

set_option maxHeartbeats 4000000 in
/-- Every operation of @main keeps the arguments. -/
theorem keeps_all (d : Dev nD) : ∀ op ∈ (all (F := F) d).1, Keeps op := by
  rw [← List.forall_iff_forall_mem]
  simp only [all, part0, part1, part2, pad, pad_0, relu, relu_1, relu_2, clip, gumbel, uniform, bits, bits0, bits1, bits2, bits3,
    argmax, one_hot, List.append_assoc, List.cons_append, List.nil_append, List.append_nil, List.forall_cons, List.Forall]
  and_intros
  all_goals first
    | exact keeps_unary _ _ _ (by decide) | exact keeps_binary _ _ _ _ (by decide) | exact keeps_nullary _ _ (by decide)
    | exact keeps_reshape _ _ _ _ (by decide) | exact keeps_nary _ _ _ _ (by decide)
    | exact keeps_quaternary _ _ _ _ _ _ (by decide) | trivial

/-- What device `d`'s buffers hold when the reference has run from the memory `m`. -/
abbrev atEnd (m : (ℓ : Loc nD τ sig) → Buf (Elt F) ℓ) (d : Dev nD) : Valuation τ sig (Elt F) :=
  after (all d).1 (launchContents m d)

/-- An argument holds at the end what it held. -/
theorem atEnd_arg (m : (ℓ : Loc nD τ sig) → Buf (Elt F) ℓ) (d : Dev nD) {b : Ref sig .tc} (h : b ∈ argRefs) :
    atEnd m d (Proc.devRef .tc b) = m ((d.tc : Thread nD τ).loc b) := by
  refine (after_of_forall_not_mem _ _ fun op hop => ?_).trans rfl
  obtain ⟨y, hw, hy⟩ := (keeps_all d op hop).writes
  rw [hw, Finset.mem_singleton]
  exact devRef_ne_of_ne fun e => hy (e ▸ h)

/-- The run: every buffer ends holding what the operations leave in it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = atEnd m d (Proc.devRef .tc b) :=
  run_seq (by decide) (by decide) defs main (fun d => (all d).1) (fun d => (all d).2)
    (fun d => List.forall_iff_forall_mem.mpr fun op h => (keeps_all d op h).bufs) m ρ (fun d op h => (keeps_all d op h).fresh)

/-- The run keeps the ten arguments and leaves every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 := by
  refine (θ_run defs _ _).mono (fun r h => ⟨fun c => ?_, sem_eq_zero_of_no_sems (by decide) r.2⟩) (run m ρ)
  have arg {b : Ref sig .tc} (hb : b ∈ argRefs) : r.2.mem ((c.tc : Thread nD τ).loc b) = m ((c.tc : Thread nD τ).loc b) :=
    (h c b).trans (atEnd_arg m c hb)
  refine ⟨arg ?_, arg ?_, arg ?_, arg ?_, arg ?_, arg ?_, arg ?_, arg ?_, arg ?_, arg ?_⟩ <;> simp

end Cert.ReferenceIdeal.Lines

end
-- ==== Proof.Value.Layers.lean ====
/- The layers of the network as functions of rows and columns, over the extended reals: a convolution by nine places on a
   ringed image followed by the cut at zero, and the maximum over two rows and two columns. With them, the maxima over a
   2 x 2 cell as the two programs take them. -/
module

public import Idealize.ShloMosaic.Lib.Pointwise

@[expose] public section

set_option maxRecDepth 16384

noncomputable section

namespace Cert.Layers

open Idealize.ShloMosaic Idealize.ShloMosaic.TcCoe Idealize.SL.Sem

/-- The image with a ring of zeros, at a row and a column of the ringed image. -/
def padded {H : ℕ} (img : Fin H → Fin H → EReal) (i j : ℕ) : EReal :=
  if h : (1 ≤ i ∧ i ≤ H) ∧ (1 ≤ j ∧ j ≤ H) then img ⟨i - 1, by omega⟩ ⟨j - 1, by omega⟩ else 0

/-- One output place of a convolution over all channels, cut at zero. -/
def conv {C H : ℕ} (img : Fin C → Fin H → Fin H → EReal) (w : Fin C → Fin 9 → EReal) (b : EReal) (y x : ℕ) : EReal :=
  max ((∑ c, ∑ k : Fin 9, w c k * padded (img c) (y + k.val / 3) (x + k.val % 3)) + b) 0

/-- The maximum of the 2 x 2 cell at row `y` and column `x`. -/
def peak (f : ℕ → ℕ → EReal) (y x : ℕ) : EReal :=
  max (max (f (y * 2 + 0) (x * 2 + 0)) (f (y * 2 + 0) (x * 2 + 1))) (max (f (y * 2 + 1) (x * 2 + 0)) (f (y * 2 + 1) (x * 2 + 1)))

/-- The word the maxima start from is the least value. -/
theorem lowest : Ideal.ofBits .f32 0xFF800000#32 = (⊥ : EReal) := by simp [Ideal.ofBits, Ideal.ieee]

theorem bit_cases (p : Fin 2) : p = 0 ∨ p = 1 := by omega

/-- A maximum over the columns of a cell. -/
theorem fold_columns {n0 n1 n2 n3 n5 : ℕ} (h : (⟨6, ![n0, n1, n2, n3, 2, n5]⟩ : Shape).Reduces [4] ⟨5, ![n0, n1, n2, n3, n5]⟩)
    (f : (⟨6, ![n0, n1, n2, n3, 2, n5]⟩ : Shape).Idx → EReal) (a : Fin n0) (b : Fin n1) (c : Fin n2) (e : Fin n3) (g : Fin n5) :
    Finset.fold max ⊥ f {x | h.drop x = ix5 a b c e g} = max (f (ix6 a b c e 0 g)) (f (ix6 a b c e 1 g)) := by
  have d : ∀ x, h.drop x = ix5 (x 0) (x 1) (x 2) (x 3) (x 5) := fun x => by funext i; fin_cases i <;> rfl
  have s : ({x | h.drop x = ix5 a b c e g} : Finset _) = {ix6 a b c e 0 g, ix6 a b c e 1 g} := by
    ext x
    obtain ⟨x0, x1, x2, x3, x4, x5, rfl⟩ : ∃ (x0 : Fin n0) (x1 : Fin n1) (x2 : Fin n2) (x3 : Fin n3) (x4 : Fin 2) (x5 : Fin n5),
        x = ix6 x0 x1 x2 x3 x4 x5 := ⟨x 0, x 1, x 2, x 3, x 4, x 5, eq_ix6 x⟩
    rw [Finset.mem_filter, d]
    simp only [Finset.mem_univ, true_and, Finset.mem_insert, Finset.mem_singleton, ix6_inj]
    refine (ix5_inj _ _ _ _ _ _ _ _ _ _).trans ?_
    have := bit_cases x4
    tauto
  rw [s, Finset.fold_insert_idem, Finset.fold_singleton, max_bot_right]

/-- A maximum over the rows and columns of a cell, at once. -/
theorem fold_cell {n0 n1 n2 n4 : ℕ} (h : (⟨6, ![n0, n1, n2, 2, n4, 2]⟩ : Shape).ReducesTo [3, 5] ⟨4, ![n0, n1, n2, n4]⟩)
    (f : (⟨6, ![n0, n1, n2, 2, n4, 2]⟩ : Shape).Idx → EReal) {z : EReal} (hz : z = ⊥) (a : Fin n0) (b : Fin n1) (c : Fin n2) (e : Fin n4) :
    Finset.fold max z f {x | h.drop x = ix4 a b c e}
      = max (max (f (ix6 a b c 0 e 0)) (f (ix6 a b c 0 e 1))) (max (f (ix6 a b c 1 e 0)) (f (ix6 a b c 1 e 1))) := by
  have d : ∀ x, h.drop x = ix4 (x 0) (x 1) (x 2) (x 4) := fun x => by funext i; fin_cases i <;> rfl
  have s : ({x | h.drop x = ix4 a b c e} : Finset _) = {ix6 a b c 0 e 0, ix6 a b c 0 e 1, ix6 a b c 1 e 0, ix6 a b c 1 e 1} := by
    ext x
    obtain ⟨x0, x1, x2, x3, x4, x5, rfl⟩ : ∃ (x0 : Fin n0) (x1 : Fin n1) (x2 : Fin n2) (x3 : Fin 2) (x4 : Fin n4) (x5 : Fin 2),
        x = ix6 x0 x1 x2 x3 x4 x5 := ⟨x 0, x 1, x 2, x 3, x 4, x 5, eq_ix6 x⟩
    rw [Finset.mem_filter, d]
    simp only [Finset.mem_univ, true_and, Finset.mem_insert, Finset.mem_singleton, ix6_inj]
    refine (ix4_inj _ _ _ _ _ _ _ _).trans ?_
    have := bit_cases x3
    have := bit_cases x5
    tauto
  rw [hz, s, Finset.fold_insert_idem, Finset.fold_insert_idem, Finset.fold_insert_idem, Finset.fold_singleton, max_bot_right]
  exact (max_assoc _ _ _).symm

/-- A maximum over two. -/
theorem fold_two (f : Fin 2 → EReal) : Finset.fold max ⊥ f Finset.univ = max (f 0) (f 1) := by
  have s : (Finset.univ : Finset (Fin 2)) = {0, 1} := by decide
  rw [s, Finset.fold_insert_idem, Finset.fold_singleton, max_bot_right]

/-- One channel's convolution, place by place from the bias. -/
theorem conv_one {H : ℕ} (img : Fin H → Fin H → EReal) (w : Fin 9 → EReal) (b : EReal) (y x : ℕ) :
    conv (fun _ : Fin 1 => img) (fun _ k => w k) b y x
      = max (b + padded img y x * w 0 + padded img y (1 + x) * w 1 + padded img y (2 + x) * w 2
          + padded img (1 + y) x * w 3 + padded img (1 + y) (1 + x) * w 4 + padded img (1 + y) (2 + x) * w 5
          + padded img (2 + y) x * w 6 + padded img (2 + y) (1 + x) * w 7 + padded img (2 + y) (2 + x) * w 8) 0 := by
  unfold conv
  rw [Fin.sum_univ_one, Fin.sum_univ_castSucc, Fin.sum_univ_eight, Nat.add_comm 1 x, Nat.add_comm 2 x, Nat.add_comm 1 y, Nat.add_comm 2 y]
  refine congrArg (max · 0) ?_
  show w 0 * padded img y x + w 1 * padded img y (x + 1) + w 2 * padded img y (x + 2)
      + w 3 * padded img (y + 1) x + w 4 * padded img (y + 1) (x + 1) + w 5 * padded img (y + 1) (x + 2)
      + w 6 * padded img (y + 2) x + w 7 * padded img (y + 2) (x + 1) + w 8 * padded img (y + 2) (x + 2) + b = _
  ac_rfl

/-- A sum over pairs, numbered row by row. -/
theorem sum_pairs (m n N : ℕ) (hN : N = m * n) (G : Fin N → EReal) :
    ∑ q, G q = ∑ a : Fin m, ∑ b : Fin n, G ⟨a.val * n + b.val, by
      have h1 := a.isLt; have h2 := b.isLt
      have h3 : (a.val + 1) * n ≤ m * n := Nat.mul_le_mul_right n h1
      rw [Nat.add_mul] at h3; omega⟩ := by
  subst hN
  rw [← Fintype.sum_prod_type', ← finProdFinEquiv.sum_comp]
  refine Finset.sum_congr rfl fun q _ => congrArg G (Fin.ext ?_)
  show q.2.val + n * q.1.val = q.1.val * n + q.2.val
  rw [Nat.mul_comm, Nat.add_comm]

theorem padded_congr {C H : ℕ} (img : Fin C → Fin H → Fin H → EReal) {c c' : Fin C} {i i' j j' : ℕ}
    (hc : c.val = c'.val) (hi : i = i') (hj : j = j') : padded (img c) i j = padded (img c') i' j' := by
  rw [Fin.ext hc, hi, hj]

/-- A convolution of 32 channels as one sum, channel by channel. -/
theorem conv_channels {H : ℕ} (img : Fin 32 → Fin H → Fin H → EReal) (W : Fin 32 → Fin 3 → Fin 3 → EReal) (G : Fin 32 → Fin 9 → EReal)
    (b : EReal) (y x : ℕ) (hg : ∀ c k, G c k = padded (img c) (y + k.val / 3) (x + k.val % 3)) :
    max ((∑ q : Fin 288, W ⟨q.val / 9, by omega⟩ ⟨q.val / 3 % 3, by omega⟩ ⟨q.val % 3, by omega⟩ * G ⟨q.val / 9, by omega⟩ ⟨q.val % 9, by omega⟩) + b) 0
      = conv img (fun c k => W c ⟨k.val / 3, by omega⟩ ⟨k.val % 3, by omega⟩) b y x := by
  unfold conv
  rw [sum_pairs 32 9 288 rfl]
  refine congrArg (fun s => max (s + b) 0) (Finset.sum_congr rfl fun c _ => Finset.sum_congr rfl fun k _ => ?_)
  have h1 : ∀ (p : (c.val * 9 + k.val) / 9 < 32), (⟨(c.val * 9 + k.val) / 9, p⟩ : Fin 32) = c := fun p => Fin.ext (by dsimp only; omega)
  have h2 : ∀ (p : (c.val * 9 + k.val) % 9 < 9), (⟨(c.val * 9 + k.val) % 9, p⟩ : Fin 9) = k := fun p => Fin.ext (by dsimp only; omega)
  have h3 : ∀ (p : (c.val * 9 + k.val) / 3 % 3 < 3), (⟨(c.val * 9 + k.val) / 3 % 3, p⟩ : Fin 3) = ⟨k.val / 3, by omega⟩ := fun p => Fin.ext (by dsimp only; omega)
  have h4 : ∀ (p : (c.val * 9 + k.val) % 3 < 3), (⟨(c.val * 9 + k.val) % 3, p⟩ : Fin 3) = ⟨k.val % 3, by omega⟩ := fun p => Fin.ext (by dsimp only; omega)
  rw [h1, h2, h3, h4, hg]

/-- A convolution of 32 channels as one sum, place by place. -/
theorem conv_places {H : ℕ} (img : Fin 32 → Fin H → Fin H → EReal) (w g : Fin 288 → EReal) (b : EReal) (y x : ℕ)
    (hg : ∀ q : Fin 288, g q = padded (img ⟨q.val % 32, Nat.mod_lt _ (by decide)⟩) (y + q.val / 32 / 3) (x + q.val / 32 % 3)) :
    max ((∑ q, g q * w q) + b) 0 = conv img (fun c k => w ⟨k.val * 32 + c.val, by omega⟩) b y x := by
  unfold conv
  rw [sum_pairs 9 32 288 rfl, Finset.sum_comm]
  refine congrArg (fun s => max (s + b) 0) (Finset.sum_congr rfl fun c _ => Finset.sum_congr rfl fun k _ => ?_)
  rw [hg, mul_comm]
  exact congrArg _ (padded_congr img (by dsimp only; omega) (by dsimp only; omega) (by dsimp only; omega))

end Cert.Layers

end
-- ==== Proof.Value.Rows.lean ====
/- One row of the classifier: the softmax, the class that a draw picks, and the two results, as functions of a row's
   values; and the reference's reduction to the picked class read as the same function. -/
module

public import proofs.«01_k».proof.ReferenceIdeal
public import proofs.«01_k».proof.Proof.Value.Layers

@[expose] public section

set_option maxRecDepth 16384

noncomputable section

namespace Cert.Layers

open Idealize.ShloMosaic

/-- The largest of a row. -/
def top {n : ℕ} (z : Fin n → EReal) : EReal := Finset.fold max (Ideal.ofBits .f32 0xFF800000#32) z Finset.univ

/-- The softmax of a row. -/
def soft (z : Fin 14 → EReal) (s : Fin 14) : EReal :=
  Ideal.div (Ideal.exp (z s - top z)) (∑ x, Ideal.exp (z x - top z))

/-- A value's clipped logarithm. -/
def clog (x : EReal) : EReal := Ideal.log (min 1 (max (Ideal.ofBits .f32 0x2B8CBCCC#32) x))

/-- A row with a draw's noise on it. -/
def noisy (l g : Fin 14 → EReal) (s : Fin 14) : EReal := l s + g s

/-- The product of a row of features with a row of weights. -/
def dot (f w : Fin 7744 → EReal) : EReal := ∑ r, f r * w r

/-- A row's scores before the softmax, from its products with the hidden layer's weights. -/
def logit (h b6 : Fin 1024 → EReal) (w7 : Fin 14 → Fin 1024 → EReal) (b8 : Fin 14 → EReal) (s : Fin 14) : EReal :=
  ∑ x, max (h x + b6 x) 0 * w7 s x + b8 s

/-- The first class at which a row is largest. -/
def best (v : Fin 14 → EReal) : BitVec 32 :=
  Finset.fold IntOp.minsi 2147483647#32 (fun x => if top v ≤ v x then BitVec.ofNat 32 x.val else 14#32) Finset.univ

/-- Whether class `s` is the best of some draw. -/
def member (v : Fin 7 → Fin 14 → EReal) (s : Fin 14) : EReal :=
  top fun j => (FloatOps.uitofp .f32 (IntOp.cmpi .eq (best (v j)) (BitVec.ofNat 32 s.val)) : Ideal .f32)

/-- A class's value where it is a member and its position lies within the length. -/
def symbol (p m : EReal) (pos len : BitVec 32) : EReal := p * m * (FloatOps.uitofp .f32 (IntOp.cmpi .slt pos len) : Ideal .f32)

/-- One bit widened and read as signed is the bit read as unsigned. -/
theorem flag (x : BitVec 1) : (FloatOps.sitofp .f32 (BitVec.setWidth 32 x) : Ideal .f32) = FloatOps.uitofp .f32 x := by
  show (((BitVec.setWidth 32 x).toInt : ℝ) : EReal) = ((x.toNat : ℝ) : EReal)
  have h : (BitVec.setWidth 32 x).toInt = (x.toNat : ℤ) := by revert x; decide
  rw [h]; simp

theorem eq_comm_bit (a b : BitVec 32) : IntOp.cmpi .eq a b = IntOp.cmpi .eq b a := by
  show BitVec.ofBool (a == b) = BitVec.ofBool (b == a)
  refine congrArg BitVec.ofBool ?_
  rw [Bool.eq_iff_iff, beq_iff_eq, beq_iff_eq, eq_comm]

theorem top_eq {n : ℕ} (z : Fin n → EReal) (k : Fin n) (h : ∀ j, z j ≤ z k) : top z = z k := by
  refine le_antisymm ?_ ?_
  · unfold top; rw [lowest, Finset.fold_max_le]; exact ⟨bot_le, fun j _ => h j⟩
  · unfold top; rw [Finset.le_fold_max]; exact Or.inr ⟨k, Finset.mem_univ _, le_rfl⟩

theorem toInt_small (k : Fin 14) : (BitVec.ofNat 32 k.val).toInt = k.val := by revert k; decide

theorem minsi_le (a b : BitVec 32) : (IntOp.minsi a b).toInt ≤ a.toInt ∧ (IntOp.minsi a b).toInt ≤ b.toInt
    ∧ (IntOp.minsi a b = a ∨ IntOp.minsi a b = b) := by
  unfold IntOp.minsi
  by_cases h : a.slt b
  · rw [if_pos h]; rw [BitVec.slt_iff_toInt_lt] at h; exact ⟨le_rfl, h.le, Or.inl rfl⟩
  · rw [if_neg h]; rw [BitVec.slt_iff_toInt_lt] at h; exact ⟨not_lt.mp h, le_rfl, Or.inr rfl⟩

/-- A least word that occurs is the minimum. -/
theorem fold_least {ι : Type} [DecidableEq ι] (S : Finset ι) (f : ι → BitVec 32) (z a : BitVec 32) (hz : a.toInt ≤ z.toInt) (ha : ∀ x ∈ S, a.toInt ≤ (f x).toInt) :
    a.toInt ≤ (Finset.fold IntOp.minsi z f S).toInt ∧ ((∃ x ∈ S, f x = a) → Finset.fold IntOp.minsi z f S = a) := by
  induction S using Finset.induction with
  | empty => exact ⟨hz, fun ⟨x, hx, _⟩ => absurd hx (Finset.notMem_empty x)⟩
  | insert y S hy ih =>
    obtain ⟨i1, i2⟩ := ih fun x hx => ha x (Finset.mem_insert_of_mem hx)
    have hy' := ha y (Finset.mem_insert_self y S)
    rw [Finset.fold_insert hy]
    obtain ⟨l1, l2, l3⟩ := minsi_le (f y) (Finset.fold IntOp.minsi z f S)
    have hge : a.toInt ≤ (IntOp.minsi (f y) (Finset.fold IntOp.minsi z f S)).toInt := by
      rcases l3 with e | e <;> rw [e] <;> assumption
    refine ⟨hge, fun ⟨x, hx, e⟩ => BitVec.eq_of_toInt_eq (le_antisymm ?_ hge)⟩
    rcases Finset.mem_insert.mp hx with rfl | hx
    · rw [← e]; exact l1
    · exact l2.trans (i2 ⟨x, hx, e⟩ ▸ le_rfl)

/-- The first class at which a row is largest is its best. -/
theorem best_eq (v : Fin 14 → EReal) (k : Fin 14) (h : ∀ j, v j ≤ v k) (hf : ∀ j, v j = v k → k ≤ j) : best v = BitVec.ofNat 32 k.val := by
  unfold best
  rw [top_eq v k h]
  have hk : (BitVec.ofNat 32 k.val).toInt < 14 := by rw [toInt_small]; have := k.isLt; omega
  refine (fold_least _ _ _ (BitVec.ofNat 32 k.val) ?_ fun x _ => ?_).2 ⟨k, Finset.mem_univ _, if_pos le_rfl⟩
  · exact hk.le.trans (by decide)
  · by_cases hx : v k ≤ v x
    · rw [if_pos hx, toInt_small, toInt_small]
      have := hf x (le_antisymm (h x) hx)
      exact Int.ofNat_le.mpr this
    · rw [if_neg hx]; exact hk.le

/-- One step of the reference's reduction. -/
theorem pick_step (a b : Ideal .f32 × BitVec 32) :
    Cert.ReferenceIdeal.reducer_argmax_f32_i32 (F := Ideal) a b
      = if b.1 < a.1 then a else if a.1 = b.1 then (b.1, if a.2.slt b.2 then a.2 else b.2) else b := by
  unfold Cert.ReferenceIdeal.reducer_argmax_f32_i32
  simp only [Ideal.cmpf_def, Ideal.cmp, Scalar.select, IntOp.ori, IntOp.andi, IntOp.cmpi]
  rcases lt_trichotomy b.1 a.1 with h | h | h
  · simp [h, h.ne']
  · by_cases hs : a.2.slt b.2 = true <;> simp [h, hs]
  · simp [h.not_gt, h.ne]

/-- The reduction over a list of classes: the value it ends with is the largest, at the first class that has it. -/
theorem fold_pick (v : Fin 14 → EReal) (l : List (Ideal .f32 × BitVec 32)) : ∀ (hl : ∀ p ∈ l, ∃ s : Fin 14, p = (v s, BitVec.ofNat 32 s.val))
    (acc : Ideal .f32 × BitVec 32) (k : Fin 14) (_ : acc.2 = BitVec.ofNat 32 k.val) (_ : acc.1 = v k ∨ (acc.1 = (⊥ : EReal) ∧ k = 0)),
    ∃ r : Fin 14, (l.foldl Cert.ReferenceIdeal.reducer_argmax_f32_i32 acc).2 = BitVec.ofNat 32 r.val
      ∧ ((l.foldl Cert.ReferenceIdeal.reducer_argmax_f32_i32 acc).1 = v r ∨ ((l.foldl Cert.ReferenceIdeal.reducer_argmax_f32_i32 acc).1 = (⊥ : EReal) ∧ r = 0))
      ∧ acc.1 ≤ (l.foldl Cert.ReferenceIdeal.reducer_argmax_f32_i32 acc).1
      ∧ ((l.foldl Cert.ReferenceIdeal.reducer_argmax_f32_i32 acc).1 = acc.1 → r ≤ k)
      ∧ ∀ s : Fin 14, (v s, BitVec.ofNat 32 s.val) ∈ l → v s ≤ (l.foldl Cert.ReferenceIdeal.reducer_argmax_f32_i32 acc).1
          ∧ (v s = (l.foldl Cert.ReferenceIdeal.reducer_argmax_f32_i32 acc).1 → r ≤ s) := by
  induction l with
  | nil => intro _ acc k h2 h1; exact ⟨k, h2, h1, le_rfl, fun _ => le_rfl, fun s hs => absurd hs List.not_mem_nil⟩
  | cons p l ih =>
    intro hl acc k h2 h1
    obtain ⟨s, rfl⟩ := hl p List.mem_cons_self
    have hl' : ∀ p ∈ l, ∃ s : Fin 14, p = (v s, BitVec.ofNat 32 s.val) := fun p hp => hl p (List.mem_cons_of_mem _ hp)
    have inj : ∀ s' : Fin 14, (v s', BitVec.ofNat 32 s'.val) = ((v s, BitVec.ofNat 32 s.val) : Ideal .f32 × BitVec 32) → s' = s := fun s' e => by
      have e2 := congrArg (fun q : Ideal .f32 × BitVec 32 => q.2.toInt) e
      simp only [toInt_small] at e2
      exact Fin.ext (Int.ofNat_inj.mp e2)
    rw [List.foldl_cons, pick_step]
    rcases lt_trichotomy (v s) acc.1 with h | h | h
    · rw [if_pos h]
      obtain ⟨r, q1, q2, q3, q4, q5⟩ := ih hl' acc k h2 h1
      refine ⟨r, q1, q2, q3, q4, fun s' hs' => ?_⟩
      rcases List.mem_cons.mp hs' with e | e
      · obtain rfl := inj s' e
        exact ⟨h.le.trans q3, fun e => absurd e (h.trans_le q3).ne⟩
      · exact q5 s' e
    · rw [if_neg h.not_lt, if_pos h.symm]
      have hc : ∃ k' : Fin 14, (if acc.2.slt (BitVec.ofNat 32 s.val) then acc.2 else BitVec.ofNat 32 s.val) = BitVec.ofNat 32 k'.val
          ∧ (v s = v k' ∨ (v s = ⊥ ∧ k' = 0)) ∧ k' ≤ k ∧ k' ≤ s := by
        by_cases hs : acc.2.slt (BitVec.ofNat 32 s.val)
        · refine ⟨k, by rw [if_pos hs, h2], h ▸ h1, le_rfl, ?_⟩
          rw [BitVec.slt_iff_toInt_lt, h2, toInt_small, toInt_small] at hs
          exact (Int.ofNat_lt.mp hs).le
        · refine ⟨s, by rw [if_neg hs], Or.inl rfl, ?_, le_rfl⟩
          rw [BitVec.slt_iff_toInt_lt, h2, toInt_small, toInt_small] at hs
          exact Int.ofNat_le.mp (not_lt.mp hs)
      obtain ⟨k', c1, c2, c3, c4⟩ := hc
      obtain ⟨r, q1, q2, q3, q4, q5⟩ := ih hl' (v s, if acc.2.slt (BitVec.ofNat 32 s.val) then acc.2 else BitVec.ofNat 32 s.val) k' c1 c2
      refine ⟨r, q1, q2, h ▸ q3, fun e => (q4 (e.trans h.symm)).trans c3, fun s' hs' => ?_⟩
      rcases List.mem_cons.mp hs' with e | e
      · obtain rfl := inj s' e
        exact ⟨q3, fun e => (q4 e.symm).trans c4⟩
      · exact q5 s' e
    · rw [if_neg h.not_gt, if_neg h.ne]
      obtain ⟨r, q1, q2, q3, q4, q5⟩ := ih hl' (v s, BitVec.ofNat 32 s.val) s rfl (Or.inl rfl)
      refine ⟨r, q1, q2, h.le.trans q3, fun e => absurd e (h.trans_le q3).ne', fun s' hs' => ?_⟩
      rcases List.mem_cons.mp hs' with e | e
      · obtain rfl := inj s' e
        exact ⟨q3, fun e => q4 e.symm⟩
      · exact q5 s' e

/-- The reference's reduction picks the best class. -/
theorem pick (X : FVec Ideal Cert.ReferenceIdeal.S64x7x7x14 .f32) (h : Cert.ReferenceIdeal.S64x7x7x14.ReducesTo [3] Cert.ReferenceIdeal.S64x7x7)
    (hu : 0 < Cert.ReferenceIdeal.S_.numel) (b : Fin 64) (p x : Fin 7) :
    (Host.argReduce Cert.ReferenceIdeal.reducer_argmax_f32_i32 X (iotaInDim Cert.ReferenceIdeal.S64x7x7x14 32 3)
      (constant Cert.ReferenceIdeal.S_ .f32 0xFF800000#32) (constantI Cert.ReferenceIdeal.S_ 32 0#32) h hu (ix3 b p x)).2
      = best fun s => X (ix4 b p x s) := by
  rw [Ideal.argReduce_eq_reduce2, Host.reduce2_eq_foldl_fiber]
  have d : ∀ i, h.drop i = ix3 (i 0) (i 1) (i 2) := fun i => by funext a; fin_cases a <;> rfl
  have hm : ∀ q, q ∈ Host.argReduceFiber X (iotaInDim Cert.ReferenceIdeal.S64x7x7x14 32 3) h (ix3 b p x)
      ↔ ∃ s : Fin 14, q = (X (ix4 b p x s), BitVec.ofNat 32 s.val) := fun q => by
    unfold Host.argReduceFiber
    simp only [List.mem_map, List.mem_filter, List.mem_finRange, true_and, decide_eq_true_eq]
    constructor
    · rintro ⟨n, hn, rfl⟩
      generalize Cert.ReferenceIdeal.S64x7x7x14.rowMajor.symm n = i at hn ⊢
      rw [d] at hn
      obtain ⟨h0, h1, h2⟩ := (ix3_inj _ _ _ _ _ _).mp hn
      refine ⟨i 3, ?_⟩
      have e : i = ix4 b p x (i 3) := by rw [← h0, ← h1, ← h2]; exact eq_ix4 i
      exact Prod.ext (congrArg X e) rfl
    · rintro ⟨s, rfl⟩
      refine ⟨Cert.ReferenceIdeal.S64x7x7x14.rowMajor (ix4 b p x s), ?_, ?_⟩
      · rw [Equiv.symm_apply_apply, d]; rfl
      · rw [Equiv.symm_apply_apply]; rfl
  obtain ⟨r, q1, q2, -, -, q5⟩ := fold_pick (fun s => X (ix4 b p x s)) _ (fun q hq => (hm q).mp hq)
    ((constant Cert.ReferenceIdeal.S_ .f32 0xFF800000#32 : FVec Ideal Cert.ReferenceIdeal.S_ .f32) (Shape.Idx.first hu), constantI Cert.ReferenceIdeal.S_ 32 0#32 (Shape.Idx.first hu))
    0 rfl (Or.inr ⟨lowest, rfl⟩)
  rw [q1]
  have q6 := fun s => q5 s ((hm _).mpr ⟨s, rfl⟩)
  refine (best_eq _ r (fun j => ?_) fun j hj => ?_).symm
  · rcases q2 with e | ⟨e, -⟩
    · exact (q6 j).1.trans_eq e
    · exact ((q6 j).1.trans_eq e).trans bot_le
  · refine (q6 j).2 ?_
    rcases q2 with e | ⟨e, -⟩
    · exact hj.trans e.symm
    · exact (hj.trans (le_bot_iff.mp ((q6 r).1.trans_eq e))).trans e.symm

end Cert.Layers

end
-- ==== Proof.Value.Result.lean ====
/- The two results as functions of the ten inputs and the draws' noise: the mathematics both sides compute. -/
module

public import proofs.«01_k».proof.KernelIdeal
public import proofs.«01_k».proof.Proof.Value.Rows

@[expose] public section

set_option maxRecDepth 16384

noncomputable section

namespace Cert.Layers

open Idealize.ShloMosaic

/-- The ten inputs. -/
structure Inputs where
  photos : FVec Ideal Cert.KernelIdeal.S64x7x1x45x45 .f32
  w1 : FVec Ideal Cert.KernelIdeal.S32x1x3x3 .f32
  b1 : FVec Ideal Cert.KernelIdeal.S32 .f32
  w2 : FVec Ideal Cert.KernelIdeal.S64x32x3x3 .f32
  b2 : FVec Ideal Cert.KernelIdeal.S64 .f32
  w3 : FVec Ideal Cert.KernelIdeal.S1024x7744 .f32
  b3 : FVec Ideal Cert.KernelIdeal.S1024 .f32
  w4 : FVec Ideal Cert.KernelIdeal.S14x1024 .f32
  b4 : FVec Ideal Cert.KernelIdeal.S14 .f32
  lens : IVec Cert.KernelIdeal.S64 32

variable (I : Inputs) (g : FVec Ideal Cert.KernelIdeal.S64x7x7x14 .f32)

/-- Image `n` of the batch. -/
def shot (n : Fin 448) (a b : Fin 45) : EReal := I.photos (ix5 ⟨n.val / 7, by omega⟩ ⟨n.val % 7, by omega⟩ 0 a b)

/-- Channel `c` of the first layer on image `n`. -/
def first (n : Fin 448) (c : Fin 32) (a b : Fin 22) : EReal :=
  peak (conv (fun _ : Fin 1 => shot I n) (fun _ k => I.w1 (ix4 c 0 ⟨k.val / 3, by omega⟩ ⟨k.val % 3, by omega⟩)) (I.b1 (ix1 c))) a.val b.val

/-- Channel `o` of the second layer on image `n`. -/
def second (n : Fin 448) (o : Fin 64) (y x : ℕ) : EReal :=
  peak (conv (first I n) (fun c k => I.w2 (ix4 o c ⟨k.val / 3, by omega⟩ ⟨k.val % 3, by omega⟩)) (I.b2 (ix1 o))) y x

/-- The features of image `n`, channel by channel. -/
def feats (n : Fin 448) (r : Fin 7744) : EReal := second I n ⟨r.val / 121, by omega⟩ (r.val / 11 % 11) (r.val % 11)

/-- Its classes' scores. -/
def scores (n : Fin 448) : Fin 14 → EReal :=
  logit (fun x => dot (feats I n) (fun r => I.w3 (ix2 x r))) (fun x => I.b3 (ix1 x)) (fun s x => I.w4 (ix2 s x)) (fun s => I.b4 (ix1 s))

/-- The images' places in the batch. -/
def place (b : Fin 64) (p : Fin 7) : Fin 448 := ⟨b.val * 7 + p.val, by omega⟩

/-- The class membership result. -/
def members (b : Fin 64) (p : Fin 7) (s : Fin 14) : EReal :=
  member (fun j => noisy (fun s => clog (soft (scores I (place b p)) s)) (fun s => g (ix4 b p j s))) s

/-- The symbol result. -/
def symbols (b : Fin 64) (p : Fin 7) (s : Fin 14) : EReal :=
  symbol (soft (scores I (place b p)) s) (members I g b p s) (BitVec.ofNat 32 p.val) (I.lens (ix1 b))

/-- Where the feature at place `q` of the channel-last order lies in the channel-first order. -/
def turn (q : Fin 7744) : Fin 7744 := ⟨q.val % 64 * 121 + q.val / 704 * 11 + q.val / 64 % 11, by omega⟩

theorem turn_digits (q : Fin 7744) : (turn q).val / 121 = q.val % 64 ∧ (turn q).val / 11 % 11 = q.val / 704 ∧ (turn q).val % 11 = q.val / 64 % 11 := by
  have h : ∀ a b c : ℕ, b < 11 → c < 11 → (a * 121 + b * 11 + c) / 121 = a ∧ (a * 121 + b * 11 + c) / 11 % 11 = b ∧ (a * 121 + b * 11 + c) % 11 = c :=
    fun a b c hb hc => by refine ⟨?_, ?_, ?_⟩ <;> omega
  exact h _ _ _ (by have := q.isLt; omega) (Nat.mod_lt _ (by decide))

theorem turn_inj : Function.Injective turn := fun q r h => by
  obtain ⟨a1, a2, a3⟩ := turn_digits q
  obtain ⟨b1, b2, b3⟩ := turn_digits r
  rw [h] at a1 a2 a3
  have e1 := a1.symm.trans b1; have e2 := a2.symm.trans b2; have e3 := a3.symm.trans b3
  clear a1 a2 a3 b1 b2 b3 h
  have f : ∀ n : ℕ, n = (n / 704 * 11 + n / 64 % 11) * 64 + n % 64 := fun n => by omega
  exact Fin.ext (by rw [f q.val, f r.val, e1, e2, e3])

/-- A product over the features is one in either order. -/
theorem dot_turn (f w : Fin 7744 → EReal) : dot (fun q => f (turn q)) (fun q => w (turn q)) = dot f w :=
  (Finite.injective_iff_bijective.mp turn_inj).sum_comp fun r => f r * w r

theorem feats_turn (n : Fin 448) (q : Fin 7744) :
    feats I n (turn q) = second I n ⟨q.val % 64, Nat.mod_lt _ (by decide)⟩ (q.val / 704) (q.val / 64 % 11) := by
  obtain ⟨e1, e2, e3⟩ := turn_digits q
  unfold feats
  rw [e2, e3]
  exact congrArg (fun o => second I n o (q.val / 704) (q.val / 64 % 11)) (Fin.ext e1)

end Cert.Layers

end
-- ==== Proof.Value.KernelFirst.lean ====
/- The stages of the feature kernel up to its first layer, at an index. -/
module

public import proofs.«01_k».proof.Proof.KernelIdeal.FcBody
public import proofs.«01_k».proof.Proof.Value.Layers

@[expose] public section

set_option maxRecDepth 16384

noncomputable section

open Idealize.ShloMosaic Idealize.ShloMosaic.TcCoe Idealize.SL.Sem
open Cert.KernelIdeal Cert.KernelIdeal.Gen Cert.Layers
namespace Cert.KernelIdeal.Value

/-- The ringed image the kernel builds. -/
theorem ringed (x : FVec Ideal S8x1x45x45 .f32) (n : Fin 8) (i j : Fin 47) :
    k0_pay2 (F := Ideal) x (ix3 n i j) = padded (fun a b => x (ix4 n 0 a b)) i.val j.val := by
  pointwise [k0_pay2, padded]
  have hz : (((0#32 : BitVec 32).toInt : ℝ) : EReal) = 0 := by simp
  simp only [hz]
  split_ifs <;> first | rfl | omega | (rw [dif_pos (by omega)])

set_option maxHeartbeats 2000000 in
/-- The first layer before its maximum over cells. -/
theorem layer1_at (X : FVec Ideal S8x1x45x45 .f32) (w : FVec Ideal S9x32 .f32) (b : FVec Ideal S1x32 .f32)
    (n : Fin 8) (y x : Fin 22) (c : Fin 32) :
    k0_pay7 (F := Ideal) (k0_pay2 X) (k0_pay3 w) (k0_pay4 X w b) (k0_pay5 X) (k0_pay6 w) (ix4 n y x c)
      = peak (conv (fun _ : Fin 1 => fun a b => X (ix4 n 0 a b)) (fun _ k => w (ix2 k c)) (b (ix2 0 c))) y.val x.val := by
  pointwise [k0_pay7]
  rw [lowest]
  simp only [fold_columns, fold_two]
  pointwise [k0_pay4, k0_pay5, k0_pay6, k0_pay3]
  simp only [ringed]
  simp only [peak, conv_one, Nat.add_zero]

end Cert.KernelIdeal.Value
end
-- ==== Proof.Value.KernelSecond.lean ====
/- The feature kernel from its first layer to the features it stores, at an index. -/
module

public import proofs.«01_k».proof.Proof.KernelIdeal.FcBody
public import proofs.«01_k».proof.Proof.Value.Layers

@[expose] public section

set_option maxRecDepth 16384

noncomputable section

open Idealize.ShloMosaic Idealize.ShloMosaic.TcCoe Idealize.SL.Sem
open Cert.KernelIdeal Cert.KernelIdeal.Gen Cert.Layers
namespace Cert.KernelIdeal.Value

/-- The ringed result of the first layer, channels last. -/
def ring2 (X : FVec Ideal S8x22x22x32 .f32) : FVec Ideal S8x24x24x32 .f32 :=
  have z : Ideal .f32 := Scalar.sitofp .f32 (0#32 : BitVec 32)
  concatenate S8x24x24x32 2
    [⟨S8x24x23x32, concatenate S8x24x23x32 2
      [⟨S8x24x1x32, broadcast S8x24x1x32 z⟩,
        ⟨S8x24x22x32, concatenate S8x24x22x32 1
          [⟨S8x23x22x32, concatenate S8x23x22x32 1 [⟨S8x1x22x32, broadcast S8x1x22x32 z⟩, ⟨S8x22x22x32, X⟩] concatenates_S8x1x22x32_S8x22x22x32_S8x23x22x32_d1⟩,
            ⟨S8x1x22x32, broadcast S8x1x22x32 z⟩] concatenates_S8x23x22x32_S8x1x22x32_S8x24x22x32_d1⟩] concatenates_S8x24x1x32_S8x24x22x32_S8x24x23x32_d2⟩,
      ⟨S8x24x1x32, broadcast S8x24x1x32 z⟩] concatenates_S8x24x23x32_S8x24x1x32_S8x24x24x32_d2

set_option maxHeartbeats 1000000 in
theorem ring2_at (X : FVec Ideal S8x22x22x32 .f32) (n : Fin 8) (i j : Fin 24) (c : Fin 32) :
    ring2 X (ix4 n i j c) = padded (fun a b => X (ix4 n a b c)) i.val j.val := by
  pointwise [ring2, padded]
  have hz : (((0#32 : BitVec 32).toInt : ℝ) : EReal) = 0 := by simp
  simp only [hz]
  split_ifs <;> first | rfl | omega | (rw [dif_pos (by omega)])

/-- The second layer before its maximum over cells: one row per place. -/
def rows2 (P : FVec Ideal S8x24x24x32 .f32) (w : FVec Ideal S64x288 .f32) (u : FVec Ideal S1x64 .f32) : FVec Ideal S3872x64 .f32 :=
  maximumf (addf (matmul dot_S3872x288_S64x288_S3872x64_1_1_0_0_n_n none
      (shapeCast S3872x288 (concatenate S8x22x22x288 3
        [⟨S8x22x22x32, extractStridedSlice S8x22x22x32 ![0, 0, 0, 0] P slices_S8x24x24x32_o0_0_0_0_S8x22x22x32⟩, ⟨S8x22x22x32, extractStridedSlice S8x22x22x32 ![0, 0, 1, 0] P slices_S8x24x24x32_o0_0_1_0_S8x22x22x32⟩, ⟨S8x22x22x32, extractStridedSlice S8x22x22x32 ![0, 0, 2, 0] P slices_S8x24x24x32_o0_0_2_0_S8x22x22x32⟩, ⟨S8x22x22x32, extractStridedSlice S8x22x22x32 ![0, 1, 0, 0] P slices_S8x24x24x32_o0_1_0_0_S8x22x22x32⟩, ⟨S8x22x22x32, extractStridedSlice S8x22x22x32 ![0, 1, 1, 0] P slices_S8x24x24x32_o0_1_1_0_S8x22x22x32⟩, ⟨S8x22x22x32, extractStridedSlice S8x22x22x32 ![0, 1, 2, 0] P slices_S8x24x24x32_o0_1_2_0_S8x22x22x32⟩, ⟨S8x22x22x32, extractStridedSlice S8x22x22x32 ![0, 2, 0, 0] P slices_S8x24x24x32_o0_2_0_0_S8x22x22x32⟩, ⟨S8x22x22x32, extractStridedSlice S8x22x22x32 ![0, 2, 1, 0] P slices_S8x24x24x32_o0_2_1_0_S8x22x22x32⟩, ⟨S8x22x22x32, extractStridedSlice S8x22x22x32 ![0, 2, 2, 0] P slices_S8x24x24x32_o0_2_2_0_S8x22x22x32⟩] concatenates_S8x22x22x32_S8x22x22x32_S8x22x22x32_S8x22x22x32_S8x22x22x32_S8x22x22x32_S8x22x22x32_S8x22x22x32_S8x22x22x32_S8x22x22x288_d3)
        shapeCasts_S8x22x22x288_S3872x288)
      (shapeCast S64x288 w shapeCasts_S64x288_S64x288) (constant S3872x64 .f32 0x00000000#32))
    (broadcastTo S3872x64 (shapeCast S1x64 u shapeCasts_S1x64_S1x64) broadcasts_S1x64_S3872x64))
    (broadcast S3872x64 (Scalar.ofBits .f32 0x00000000#32))

set_option maxHeartbeats 1000000 in
theorem rows2_at (P : FVec Ideal S8x24x24x32 .f32) (w : FVec Ideal S64x288 .f32) (u : FVec Ideal S1x64 .f32)
    (n : Fin 8) (r : Fin 3872) (o : Fin 64) (hn : r.val / 484 = n.val) (img : Fin 32 → Fin 22 → Fin 22 → EReal)
    (hP : ∀ i j c, P (ix4 n i j c) = padded (img c) i.val j.val) :
    rows2 P w u (ix2 r o) = conv img (fun c k => w (ix2 o ⟨k.val * 32 + c.val, by omega⟩)) (u (ix2 0 o)) (r.val / 22 % 22) (r.val % 22) := by
  have hn' : n = ⟨r.val / 484, by omega⟩ := Fin.ext hn.symm
  generalize hc : conv _ _ _ _ _ = v
  pointwise [rows2]
  subst hc
  refine conv_places img (fun q => w (ix2 o q)) _ _ _ _ fun q => ?_
  split_ifs
  all_goals
    refine .trans (congrArg (fun m => P (ix4 m _ _ _)) hn'.symm) ((hP _ _ _).trans (padded_congr img ?_ ?_ ?_))
    all_goals dsimp only; omega

set_option maxHeartbeats 1000000 in
/-- The second layer's maximum over cells, in the order the features are laid out. -/
theorem layer2_at (X : FVec Ideal S8x22x22x32 .f32) (w : FVec Ideal S64x288 .f32) (u : FVec Ideal S1x64 .f32)
    (n : Fin 8) (q : Fin 7744) (img : Fin 32 → Fin 22 → Fin 22 → EReal) (hX : ∀ a b c, X (ix4 n a b c) = img c a b) :
    k0_pay1 (F := Ideal) X 0#32 w u (ix2 n q)
      = peak (conv img (fun c k => w (ix2 ⟨q.val % 64, by omega⟩ ⟨k.val * 32 + c.val, by omega⟩)) (u (ix2 0 ⟨q.val % 64, by omega⟩)))
          (q.val / 704) (q.val / 64 % 11) := by
  have hr : ∀ i j c, ring2 X (ix4 n i j c) = padded (img c) i.val j.val := fun i j c => by
    rw [ring2_at]; exact congrArg (fun f => padded f i.val j.val) (funext fun a => funext fun b => hX a b c)
  have hm := fun r o hn => rows2_at (ring2 X) w u n r o hn img hr
  generalize hp : peak _ _ _ = p
  unfold rows2 ring2 at hm
  unfold k0_pay1
  dsimp only at hm ⊢
  revert hm
  generalize maximumf (F := Ideal) (s := S3872x64) _ _ = M
  intro hm
  pointwise
  rw [lowest]
  simp only [fold_columns, fold_two]
  pointwise
  subst hp
  unfold peak
  refine congrArg₂ max (congrArg₂ max ?_ ?_) (congrArg₂ max ?_ ?_)
  all_goals
    refine (hm _ _ (by dsimp only; omega)).trans ?_
    refine congrArg₂ (conv img _ _) ?_ ?_
    all_goals dsimp only; omega

end Cert.KernelIdeal.Value
end
-- ==== Proof.Value.KernelBlocks.lean ====
/- What each stage's blocks hold of its arrays, and what the stages leave in their output arrays. -/
module

public import proofs.«01_k».proof.Proof.KernelIdeal.Run
public import proofs.«01_k».proof.Proof.Value.Rows
public import Idealize.ShloMosaic.Lib.Claim
public import Idealize.ShloMosaic.Lib.Pipeline.ValueKit
public import Idealize.ShloMosaic.Lib.StableHlo.ReadAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Stage Cert.Layers

variable (V : (c : Dev nD) → (b : Ref sig .tc) → Buf (Elt Ideal) ((c : Thread nD τ).loc b)) (c : Dev nD)

theorem idx0 : ∀ t : Fin cfg0.N, win0_0.index t = ![t.val, 0, 0, 0] ∧ win0_1.index t = ![0, 0] ∧ win0_2.index t = ![0, 0]
    ∧ win0_3.index t = ![0, 0] ∧ win0_4.index t = ![0, 0] ∧ win0_5.index t = ![t.val, 0] := (by decide +kernel : ∀ t : Fin grid0.N, _)

theorem idx1 : ∀ t : Fin cfg1.N, win1_0.index t = ![0, 0] ∧ win1_1.index t = ![t.val, 0] ∧ win1_2.index t = ![0, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] := (by decide +kernel : ∀ t : Fin grid1.N, _)

/-- The feature stage's blocks: eight images, and the weights whole. -/
theorem featIn0 (t : Fin cfg0.N) (j : Fin 8) (a b : Fin 45) :
    (featIn V c 0 t : FVec Ideal S8x1x45x45 .f32) (ix4 j 0 a b)
      = (V c main_v0 : FVec Ideal S448x1x45x45 .f32) (ix4 ⟨t.val * 8 + j.val, by have h := t.isLt; have e : cfg0.N = 56 := N_0; omega⟩ 0 a b) := by
  blk_ext! [featIn, idx0 t]
theorem featIn1 (t : Fin cfg0.N) : (featIn V c 1 t : FVec Ideal S9x32 .f32) = V c main_v2 := by blk_ext! [featIn, idx0 t]
theorem featIn2 (t : Fin cfg0.N) : (featIn V c 2 t : FVec Ideal S1x32 .f32) = V c main_v3 := by blk_ext! [featIn, idx0 t]
theorem featIn3 (t : Fin cfg0.N) : (featIn V c 3 t : FVec Ideal S64x288 .f32) = V c main_v5 := by blk_ext! [featIn, idx0 t]
theorem featIn4 (t : Fin cfg0.N) : (featIn V c 4 t : FVec Ideal S1x64 .f32) = V c main_v6 := by blk_ext! [featIn, idx0 t]

/-- The classifier stage's blocks: 256 rows of the first weights, and everything else whole. -/
theorem fcIn0 (t : Fin cfg1.N) : (fcIn V c 0 t : FVec Ideal S448x7744 .f32) = V c main_v7 := by blk_ext! [fcIn, idx1 t]
theorem fcIn1 (t : Fin cfg1.N) (j : Fin 256) (q : Fin 7744) :
    (fcIn V c 1 t : FVec Ideal S256x7744 .f32) (ix2 j q)
      = (V c main_v10 : FVec Ideal S1024x7744 .f32) (ix2 ⟨t.val * 256 + j.val, by have h := t.isLt; have e : cfg1.N = 4 := N_1; omega⟩ q) := by
  blk_ext! [fcIn, idx1 t]
theorem fcIn2 (t : Fin cfg1.N) : (fcIn V c 2 t : FVec Ideal S1x1024 .f32) = V c main_v11 := by blk_ext! [fcIn, idx1 t]
theorem fcIn3 (t : Fin cfg1.N) : (fcIn V c 3 t : FVec Ideal S14x1024 .f32) = V c main_arg7 := by blk_ext! [fcIn, idx1 t]
theorem fcIn4 (t : Fin cfg1.N) : (fcIn V c 4 t : FVec Ideal S1x14 .f32) = V c main_v12 := by blk_ext! [fcIn, idx1 t]
theorem fcIn5 (t : Fin cfg1.N) : (fcIn V c 5 t : FVec Ideal S448x98 .f32) = V c main_v21 := by blk_ext! [fcIn, idx1 t]
theorem fcIn6 (t : Fin cfg1.N) : (fcIn V c 6 t : IVec S448x1 32) = V c main_v24 := by blk_ext! [fcIn, idx1 t]
theorem fcIn7 (t : Fin cfg1.N) : (fcIn V c 7 t : IVec S448x1 32) = V c main_v29 := by blk_ext! [fcIn, idx1 t]

/-- The feature array, image by image. -/
def featAll : FVec Ideal S448x7744 .f32 := fun i =>
  featOut V c ⟨(i 0).val / 8, by have h : (i 0).val < 448 := (i 0).isLt; have e : cfg0.N = 56 := N_0; omega⟩
    (ix2 ⟨(i 0).val % 8, Nat.mod_lt _ (by decide)⟩ ⟨(i 1).val, (i 1).isLt⟩)

theorem featArr : (featDat V c).arrAt 5 cfg0.N = featAll V c := by
  refine (featDat V c).arrAt_eq_of_covers 5 _ (by decide +kernel) fun t _ y => ?_
  blk_simp
  rw [featDat_after5]
  have h0 : (((win0_5.blk t).view.emb y) 0 : ℕ) = t.val * 8 + (y 0).val := by blk_simp [idx0 t]
  have h1 : (((win0_5.blk t).view.emb y) 1 : ℕ) = (y 1).val := by blk_simp [idx0 t]
  have hy : (y 0).val < 8 := (y 0).isLt
  unfold featAll
  refine congr (congrArg (featOut V c) (Fin.ext ?_)) (funext fun a => ?_)
  · show t.val = _ / 8; omega
  · fin_cases a
    · refine Fin.ext ?_; show (y 0).val = _ % 8; omega
    · exact Fin.ext h1.symm

theorem fcArr8 : (fcDat V c).arrAt 8 cfg1.N = fcOutSym V c ⟨3, by decide +kernel⟩ := by
  refine (fcDat V c).arrAt_eq_of_after_last 8 ⟨3, by decide +kernel⟩ (by decide +kernel) _ fun j => ?_
  blk_simp
  exact congrFun (fcDat_after8 V c _) j
theorem fcArr9 : (fcDat V c).arrAt 9 cfg1.N = fcOutMem V c ⟨3, by decide +kernel⟩ := by
  refine (fcDat V c).arrAt_eq_of_after_last 9 ⟨3, by decide +kernel⟩ (by decide +kernel) _ fun j => ?_
  blk_simp
  exact congrFun (fcDat_after9 V c _) j

theorem pay1_at (h : FVec Ideal S448x7744 .f32) (w : FVec Ideal S256x7744 .f32) (n : Fin 448) (s : Fin 256) :
    k1_pay1 h w (ix2 n s) = ∑ x : Fin 7744, h (ix2 n x) * w (ix2 s x) := by
  pointwise [k1_pay1]

/-- The hidden layer before its bias. -/
theorem hidden_at (n : Fin 448) (s : Fin 1024) : (fcHidden V c : FVec Ideal S448x1024 .f32) (ix2 n s)
    = dot (fun x => (V c main_v7 : FVec Ideal S448x7744 .f32) (ix2 n x)) (fun x => (V c main_v10 : FVec Ideal S1024x7744 .f32) (ix2 s x)) := by
  have e : colLocal (ix2 n s) = (ix2 n ⟨s.val % 256, Nat.mod_lt _ (by decide)⟩ : S448x256.Idx) := by funext a; fin_cases a <;> rfl
  unfold fcHidden fcSlice
  rw [e]
  refine (pay1_at _ _ n ⟨s.val % 256, Nat.mod_lt _ (by decide)⟩).trans (Finset.sum_congr rfl fun x _ => ?_)
  refine congr (congrArg (fun a b : EReal => a * b) (congrFun (fcIn0 V c _) _)) ((fcIn1 V c _ _ x).trans ?_)
  refine congrArg (fun k => (V c main_v10 : FVec Ideal S1024x7744 .f32) (ix2 k x)) (Fin.ext ?_)
  show s.val / 256 * 256 + s.val % 256 = s.val
  omega

end Cert.KernelIdeal.Value

end
-- ==== Proof.Value.KernelHost.lean ====
/- What the host operations around the stages leave, at an index. -/
module

public import proofs.«01_k».proof.Proof.KernelIdeal.Run
public import proofs.«01_k».proof.Proof.Value.Rows
public import Idealize.ShloMosaic.Lib.Claim
public import Idealize.ShloMosaic.Lib.Pipeline.ValueKit
public import Idealize.ShloMosaic.Lib.StableHlo.ReadAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Stage Cert.Layers

open StableHlo

variable (V : Valuation τ sig (Elt Ideal))

theorem v0_at (n : Fin 448) (a b : Fin 45) : (after hostOps0 V (Proc.devRef .tc main_v0) : FVec Ideal S448x1x45x45 .f32) (ix4 n 0 a b)
    = (V (Proc.devRef .tc main_arg0) : FVec Ideal S64x7x1x45x45 .f32) (ix5 ⟨n.val / 7, by omega⟩ ⟨n.val % 7, by omega⟩ 0 a b) := by
  after_reads_simp
  pointwise
theorem v2_at (k : Fin 9) (a : Fin 32) : (after hostOps0 V (Proc.devRef .tc main_v2) : FVec Ideal S9x32 .f32) (ix2 k a)
    = (V (Proc.devRef .tc main_arg1) : FVec Ideal S32x1x3x3 .f32) (ix4 a 0 ⟨k.val / 3, by omega⟩ ⟨k.val % 3, by omega⟩) := by
  after_reads_simp
  pointwise
theorem v3_at (a : Fin 32) : (after hostOps0 V (Proc.devRef .tc main_v3) : FVec Ideal S1x32 .f32) (ix2 0 a)
    = (V (Proc.devRef .tc main_arg2) : FVec Ideal S32 .f32) (ix1 a) := by
  after_reads_simp
  pointwise
theorem v5_at (n : Fin 64) (a : Fin 288) : (after hostOps0 V (Proc.devRef .tc main_v5) : FVec Ideal S64x288 .f32) (ix2 n a)
    = (V (Proc.devRef .tc main_arg3) : FVec Ideal S64x32x3x3 .f32) (ix4 n ⟨a.val % 32, by omega⟩ ⟨a.val / 96, by omega⟩ ⟨a.val / 32 % 3, by omega⟩) := by
  after_reads_simp
  pointwise
theorem v6_at (a : Fin 64) : (after hostOps0 V (Proc.devRef .tc main_v6) : FVec Ideal S1x64 .f32) (ix2 0 a)
    = (V (Proc.devRef .tc main_arg4) : FVec Ideal S64 .f32) (ix1 a) := by
  after_reads_simp
  pointwise
theorem v10_at (n : Fin 1024) (a : Fin 7744) : (after hostOps1 V (Proc.devRef .tc main_v10) : FVec Ideal S1024x7744 .f32) (ix2 n a)
    = (V (Proc.devRef .tc main_arg5) : FVec Ideal S1024x7744 .f32) (ix2 n ⟨a.val % 64 * 121 + a.val / 704 * 11 + a.val / 64 % 11, by omega⟩) := by
  after_reads_simp
  pointwise
theorem v11_at (a : Fin 1024) : (after hostOps1 V (Proc.devRef .tc main_v11) : FVec Ideal S1x1024 .f32) (ix2 0 a)
    = (V (Proc.devRef .tc main_arg6) : FVec Ideal S1024 .f32) (ix1 a) := by
  after_reads_simp
  pointwise
theorem v12_at (a : Fin 14) : (after hostOps1 V (Proc.devRef .tc main_v12) : FVec Ideal S1x14 .f32) (ix2 0 a)
    = (V (Proc.devRef .tc main_arg8) : FVec Ideal S14 .f32) (ix1 a) := by
  after_reads_simp
  pointwise
theorem v21_at (n : Fin 448) (a : Fin 98) : (after hostOps1_2 V (Proc.devRef .tc main_v21) : FVec Ideal S448x98 .f32) (ix2 n a)
    = (V (Proc.devRef .tc main_v20) : FVec Ideal S64x7x7x14 .f32) (ix4 ⟨n.val / 7, by omega⟩ ⟨n.val % 7, by omega⟩ ⟨a.val / 14, by omega⟩ ⟨a.val % 14, by omega⟩) := by
  after_reads_simp
  pointwise
theorem v24_at (n : Fin 448) : (after hostOps1_2 V (Proc.devRef .tc main_v24) : IVec S448x1 32) (ix2 n 0)
    = (V (Proc.devRef .tc main_arg9) : IVec S64 32) (ix1 ⟨n.val / 7, by omega⟩) := by
  after_reads_simp
  pointwise
theorem v29_at (n : Fin 448) : (after hostOps1_2 V (Proc.devRef .tc main_v29) : IVec S448x1 32) (ix2 n 0) = BitVec.ofNat 32 (n.val % 7) := by
  after_reads_simp
  pointwise
theorem v31_at (b : Fin 64) (p : Fin 7) (s : Fin 14) : (after hostOps2 V (Proc.devRef .tc main_v31) : FVec Ideal S64x7x14 .f32) (ix3 b p s)
    = (V (Proc.devRef .tc main_v30_0) : FVec Ideal S448x14 .f32) (ix2 ⟨b.val * 7 + p.val, by omega⟩ s) := by
  after_reads_simp
  pointwise
theorem v32_at (b : Fin 64) (p : Fin 7) (s : Fin 14) : (after hostOps2 V (Proc.devRef .tc main_v32) : FVec Ideal S64x7x14 .f32) (ix3 b p s)
    = (V (Proc.devRef .tc main_v30_1) : FVec Ideal S448x14 .f32) (ix2 ⟨b.val * 7 + p.val, by omega⟩ s) := by
  after_reads_simp
  pointwise

end Cert.KernelIdeal.Value

end
-- ==== Proof.Value.KernelRows.lean ====
/- The classifier's payloads, row by row. -/
module

public import proofs.«01_k».proof.Proof.KernelIdeal.Run
public import proofs.«01_k».proof.Proof.Value.Rows
public import Idealize.ShloMosaic.Lib.Claim
public import Idealize.ShloMosaic.Lib.Pipeline.ValueKit
public import Idealize.ShloMosaic.Lib.StableHlo.ReadAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Stage Cert.Layers

variable (h : FVec Ideal S448x1024 .f32) (b1 : FVec Ideal S1x1024 .f32) (w2 : FVec Ideal S14x1024 .f32) (b2 : FVec Ideal S1x14 .f32)
  (g : FVec Ideal S448x98 .f32)

/-- A row's scores before the softmax. -/
def rowLogit (n : Fin 448) : Fin 14 → EReal :=
  logit (fun x => h (ix2 n x)) (fun x => b1 (ix2 0 x)) (fun s x => w2 (ix2 s x)) (fun s => b2 (ix2 0 s))

/-- The noise of a row's draw. -/
def rowNoise (n : Fin 448) (j : Fin 7) (s : Fin 14) : EReal := g (ix2 n ⟨j.val * 14 + s.val, by omega⟩)

theorem pay4_at (n : Fin 448) (s : Fin 14) : k1_pay4 (F := Ideal) h b1 w2 b2 (ix2 n s) = soft (rowLogit h b1 w2 b2 n) s := by
  pointwise [k1_pay4]
  simp only [soft, top, rowLogit, logit]
  rfl

theorem pay5_at (n : Fin 448) (j : Fin 7) :
    k1_pay5 (F := Ideal) h b1 w2 b2 g (ix2 n j) = best (noisy (fun s => clog (k1_pay4 (F := Ideal) h b1 w2 b2 (ix2 n s))) (rowNoise g n j)) := by
  pointwise [k1_pay5]
  simp only [best, top, noisy, clog, rowNoise]
  rfl

theorem pay2_at (k : IVec S448x7 32) (n : Fin 448) (s : Fin 14) : k1_pay2 (F := Ideal) classIota k (ix2 n s)
    = top fun j : Fin 7 => (FloatOps.uitofp .f32 (IntOp.cmpi .eq (k (ix2 n j)) (BitVec.ofNat 32 s.val)) : Ideal .f32) := by
  pointwise [k1_pay2, classIota]
  simp only [flag, top]
  simp only [eq_comm_bit (BitVec.ofNat 32 s.val)]

theorem member_at (n : Fin 448) (s : Fin 14) : fcMember (F := Ideal) h b1 w2 b2 g (ix2 n s)
    = member (fun j => noisy (fun s => clog (soft (rowLogit h b1 w2 b2 n) s)) (rowNoise g n j)) s := by
  unfold fcMember member
  rw [pay2_at]
  simp only [pay5_at, pay4_at]

theorem symbol_at (len pos : IVec S448x1 32) (n : Fin 448) (s : Fin 14) : fcSymbol (F := Ideal) h b1 w2 b2 g len pos (ix2 n s)
    = symbol (soft (rowLogit h b1 w2 b2 n) s) (member (fun j => noisy (fun s => clog (soft (rowLogit h b1 w2 b2 n) s)) (rowNoise g n j)) s)
        (pos (ix2 n 0)) (len (ix2 n 0)) := by
  rw [← member_at, ← pay4_at]
  unfold fcSymbol fcMember symbol
  pointwise [k1_pay3]
  simp only [flag]

end Cert.KernelIdeal.Value

end
-- ==== Proof.Value.KernelResult.lean ====
/- The kernel leaves the two results in its output arrays. -/
module

public import proofs.«01_k».proof.Proof.KernelIdeal.Run
public import proofs.«01_k».proof.Proof.Value.Result
public import proofs.«01_k».proof.Proof.Value.KernelFirst
public import proofs.«01_k».proof.Proof.Value.KernelSecond
public import proofs.«01_k».proof.Proof.Value.KernelBlocks
public import proofs.«01_k».proof.Proof.Value.KernelHost
public import proofs.«01_k».proof.Proof.Value.KernelRows

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Stage Cert.Layers

variable (m : (ℓ : Loc nD τ sig) → Buf (Elt Ideal) ℓ) (c : Dev nD)

/-- The inputs as launched. -/
def inputs : Inputs where
  photos := m ((c : Thread nD τ).loc main_arg0)
  w1 := m ((c : Thread nD τ).loc main_arg1)
  b1 := m ((c : Thread nD τ).loc main_arg2)
  w2 := m ((c : Thread nD τ).loc main_arg3)
  b2 := m ((c : Thread nD τ).loc main_arg4)
  w3 := m ((c : Thread nD τ).loc main_arg5)
  b3 := m ((c : Thread nD τ).loc main_arg6)
  w4 := m ((c : Thread nD τ).loc main_arg7)
  b4 := m ((c : Thread nD τ).loc main_arg8)
  lens := m ((c : Thread nD τ).loc main_arg9)

/-- The noise the draws take. -/
def noiseOf : FVec Ideal S64x7x7x14 .f32 := pastNoise m c (Proc.devRef .tc main_v20)

/-- What the feature stage leaves for image `n`. -/
theorem feat_at (n : Fin 448) (q : Fin 7744) :
    (pastFeat m c (Proc.devRef .tc main_v7) : FVec Ideal S448x7744 .f32) (ix2 n q) = feats (inputs m c) n (turn q) := by
  rw [feats_turn]
  have hn := n.isLt
  refine (congrFun ((pastFeat_arr m c 5).trans (featArr _ c)) (ix2 n q)).trans ?_
  unfold featAll featOut featBlock
  refine (layer2_at _ _ _ ⟨n.val % 8, Nat.mod_lt _ (by decide)⟩ q (first (inputs m c) n) fun a b k => ?_).trans ?_
  · refine (layer1_at _ _ _ ⟨n.val % 8, Nat.mod_lt _ (by decide)⟩ a b k).trans ?_
    unfold first
    refine congrArg (fun f => peak f a.val b.val) (congr (congr (congrArg conv (funext fun _ => funext fun i => funext fun j => ?_)) (funext fun _ => funext fun l => ?_)) ?_)
    · refine (featIn0 _ c _ _ i j).trans ((v0_at (atLaunch m c) _ i j).trans ?_)
      exact congrArg (fun k : Fin 448 => shot (inputs m c) k i j) (Fin.ext (by show n.val / 8 * 8 + n.val % 8 = n.val; omega))
    · exact (congrFun (featIn1 _ c _) _).trans (v2_at (atLaunch m c) l k)
    · exact (congrFun (featIn2 _ c _) _).trans (v3_at (atLaunch m c) k)
  · unfold second
    refine congrArg (fun f => peak f (q.val / 704) (q.val / 64 % 11)) (congr (congrArg (conv (first (inputs m c) n)) (funext fun k => funext fun l => ?_)) ?_)
    · refine (congrFun (featIn3 _ c _) _).trans ((v5_at (atLaunch m c) _ _).trans ?_)
      have h1 := k.isLt; have h2 := l.isLt
      have e1 : (l.val * 32 + k.val) % 32 = k.val := by omega
      have e2 : (l.val * 32 + k.val) / 96 = l.val / 3 := by omega
      have e3 : (l.val * 32 + k.val) / 32 % 3 = l.val % 3 := by omega
      refine congrArg (fun v => (inputs m c).w2 v) ?_
      exact congr (congr (congrArg (fun (x : Fin 32) (y z : Fin 3) => ix4 (⟨q.val % 64, Nat.mod_lt _ (by decide)⟩ : Fin 64) x y z) (Fin.ext e1)) (Fin.ext e2)) (Fin.ext e3)
    · exact (congrFun (featIn4 _ c _) _).trans (v6_at (atLaunch m c) _)

theorem v7_kept : toFc m c (Proc.devRef .tc main_v7) = pastFeat m c (Proc.devRef .tc main_v7) :=
  (StableHlo.after_of_writes_sub hostOps1_2 _ hostOps1_2_writes (by decide +kernel)).trans
    ((StableHlo.after_of_writes_sub hostOps1_1 _ hostOps1_1_writes (by decide +kernel)).trans
      (StableHlo.after_of_writes_sub hostOps1 _ hostOps1_writes (by decide +kernel)))
theorem early_kept (r : Ref sig .tc) (h1 : r ∉ hostOps1_1_W) (h2 : r ∉ hostOps1_2_W) :
    toFc m c (Proc.devRef .tc r) = toNoise m c (Proc.devRef .tc r) :=
  (StableHlo.after_of_writes_sub hostOps1_2 _ hostOps1_2_writes h2).trans (StableHlo.after_of_writes_sub hostOps1_1 _ hostOps1_1_writes h1)

/-- The hidden layer before its bias. -/
theorem hid_at (n : Fin 448) (x : Fin 1024) : (fcHidden (fun c b => toFc m c b) c : FVec Ideal S448x1024 .f32) (ix2 n x)
    = dot (feats (inputs m c) n) (fun r => (inputs m c).w3 (ix2 x r)) := by
  refine (hidden_at _ c n x).trans (Eq.trans ?_ (dot_turn (feats (inputs m c) n) fun r => (inputs m c).w3 (ix2 x r)))
  refine congr (congrArg dot (funext fun q => ?_)) (funext fun q => ?_)
  · exact (congrFun (v7_kept m c) _).trans (feat_at m c n q)
  · refine (congrFun (early_kept m c main_v10 (by decide +kernel) (by decide +kernel)) _).trans ((v10_at _ x q).trans ?_)
    exact congrFun (pastFeat_arg m c main_arg5 (by simp)) _

/-- The scores of a row. -/
theorem logit_at (t : Fin cfg1.N) (n : Fin 448) :
    rowLogit (fcHidden (fun c b => toFc m c b) c) (fcIn (fun c b => toFc m c b) c 2 t) (fcIn (fun c b => toFc m c b) c 3 t)
      (fcIn (fun c b => toFc m c b) c 4 t) n = scores (inputs m c) n := by
  unfold rowLogit scores
  refine congr (congr (congr (congrArg logit (funext fun x => hid_at m c n x)) (funext fun x => ?_)) (funext fun s => funext fun x => ?_)) (funext fun s => ?_)
  · refine (congrFun (fcIn2 _ c t) _).trans ((congrFun (early_kept m c main_v11 (by decide +kernel) (by decide +kernel)) _).trans ((v11_at _ x).trans ?_))
    exact congrFun (pastFeat_arg m c main_arg6 (by simp)) _
  · exact (congrFun (fcIn3 _ c t) _).trans (congrFun (toFc_arg m c main_arg7 (by simp)) _)
  · refine (congrFun (fcIn4 _ c t) _).trans ((congrFun (early_kept m c main_v12 (by decide +kernel) (by decide +kernel)) _).trans ((v12_at _ s).trans ?_))
    exact congrFun (pastFeat_arg m c main_arg8 (by simp)) _

theorem place_div (b : Fin 64) (p : Fin 7) : (place b p).val / 7 = b.val := by unfold place; show (_ + _) / 7 = _; omega
theorem place_mod (b : Fin 64) (p : Fin 7) : (place b p).val % 7 = p.val := by unfold place; show (_ + _) % 7 = _; omega

/-- The noise of a row's draws. -/
theorem noise_at (t : Fin cfg1.N) (b : Fin 64) (p j : Fin 7) :
    rowNoise (fcIn (fun c b => toFc m c b) c 5 t) (place b p) j = fun s => noiseOf m c (ix4 b p j s) := by
  funext s
  unfold rowNoise
  refine (congrFun (fcIn5 _ c t) _).trans ((v21_at _ _ _).trans ?_)
  have h1 := j.isLt; have h2 := s.isLt
  have e1 : (j.val * 14 + s.val) / 14 = j.val := by omega
  have e2 : (j.val * 14 + s.val) % 14 = s.val := by omega
  refine congrArg (fun v => noiseOf m c v) ?_
  exact congr (congr (congr (congrArg (fun (x : Fin 64) (y z : Fin 7) (w : Fin 14) => ix4 x y z w) (Fin.ext (place_div b p))) (Fin.ext (place_mod b p)))
    (Fin.ext e1)) (Fin.ext e2)

/-- The membership result. -/
theorem members_at (b : Fin 64) (p : Fin 7) (s : Fin 14) :
    (atReturn m c (Proc.devRef .tc main_v32) : FVec Ideal S64x7x14 .f32) (ix3 b p s) = members (inputs m c) (noiseOf m c) b p s := by
  refine (v32_at _ b p s).trans ((congrFun ((pastFc_arr m c 9).trans (fcArr9 _ c)) _).trans ?_)
  unfold fcOutMem
  refine (member_at _ _ _ _ _ (place b p) s).trans ?_
  unfold members
  simp only [logit_at, noise_at]

/-- The symbol result. -/
theorem symbols_at (b : Fin 64) (p : Fin 7) (s : Fin 14) :
    (atReturn m c (Proc.devRef .tc main_v31) : FVec Ideal S64x7x14 .f32) (ix3 b p s) = symbols (inputs m c) (noiseOf m c) b p s := by
  refine (v31_at _ b p s).trans ((congrFun ((pastFc_arr m c 8).trans (fcArr8 _ c)) _).trans ?_)
  unfold fcOutSym
  refine (symbol_at _ _ _ _ _ _ _ (place b p) s).trans ?_
  unfold symbols members
  simp only [logit_at, noise_at]
  refine congr (congrArg _ ?_) ?_
  · refine (congrFun (fcIn7 _ c _) _).trans ((v29_at _ _).trans ?_)
    rw [place_mod]
  · refine (congrFun (fcIn6 _ c _) _).trans ((v24_at _ _).trans ?_)
    refine (congrFun ((StableHlo.after_of_writes_sub hostOps1_1 _ hostOps1_1_writes (args_ops1_1 main_arg9 (by simp))).trans
      ((StableHlo.after_of_writes_sub hostOps1 _ hostOps1_writes (args_ops1 main_arg9 (by simp))).trans (pastFeat_arg m c main_arg9 (by simp)))) _).trans ?_
    exact congrArg (fun k : Fin 64 => (inputs m c).lens (ix1 k)) (Fin.ext (place_div b p))

end Cert.KernelIdeal.Value

end
-- ==== Proof.Reference.Segments.lean ====
/- The reference's line of operations cut at the values that carry from one step of its mathematics to the next. -/
module

public import proofs.«01_k».proof.Proof.Reference.Lines

@[expose] public section

set_option maxRecDepth 16384

noncomputable section

namespace Cert.ReferenceIdeal.Lines

open Idealize.ShloMosaic Idealize.ShloMosaic.TcCoe Idealize.SL.Sem
open Idealize.ShloMosaic.StableHlo

variable {F : FTy → Type} [FloatOps F]

/-- The nine shifted copies of the ringed images, -/
def shifts1 (d : Dev nD) := (part0 (F := F) d).1.take 22
/-- stacked, -/
def stack1 (d : Dev nD) := ((part0 (F := F) d).1.drop 22).take 1
/-- and the first layer from the stack. -/
def layer1 (d : Dev nD) := ((part0 (F := F) d).1.drop 23).take 14
/-- The same three of the second layer, -/
def shifts2 (d : Dev nD) := ((part0 (F := F) d).1.drop 37).take 21
def stack2 (d : Dev nD) := ((part0 (F := F) d).1.drop 58).take 1
def layer2a (d : Dev nD) := (part0 (F := F) d).1.drop 59
def layer2b (d : Dev nD) := (part1 (F := F) d).1.take 8
/-- the classifier up to the logarithm of its clipped probabilities and the key, -/
def classes (d : Dev nD) := ((part1 (F := F) d).1.drop 8).take 51
/-- the draws' noise, -/
def noise (_d : Dev nD) := (gumbel (F := F) (.of main_v94) main_call6).1
/-- and the draws and results. -/
def drawsA (d : Dev nD) := (part1 (F := F) d).1.drop 336
def drawsB (d : Dev nD) := (part2 (F := F) d).1

theorem part0_cut (d : Dev nD) : (part0 (F := F) d).1
    = shifts1 d ++ (stack1 d ++ (layer1 d ++ (shifts2 d ++ (stack2 d ++ layer2a d)))) := rfl

theorem part1_cut (d : Dev nD) : (part1 (F := F) d).1 = layer2b d ++ (classes d ++ (noise d ++ drawsA d)) := rfl

/-- What a reading of a segment opens. -/
theorem all_cut (d : Dev nD) : (all (F := F) d).1
    = shifts1 d ++ (stack1 d ++ (layer1 d ++ (shifts2 d ++ (stack2 d ++ (layer2a d ++ (layer2b d ++ (classes d ++ (noise d ++ (drawsA d ++ drawsB d))))))))) := by
  have h : (all (F := F) d).1 = (part0 d).1 ++ ((part1 d).1 ++ (part2 d).1) := rfl
  rw [h, part0_cut, part1_cut]
  simp only [List.append_assoc, drawsB]

end Cert.ReferenceIdeal.Lines

end
-- ==== Proof.Value.RefFirst.lean ====
/- The reference's first layer at an index. -/
module

public import proofs.«01_k».proof.Proof.Reference.Segments
public import proofs.«01_k».proof.Proof.Value.Layers
public import Idealize.ShloMosaic.Lib.StableHlo.ReadAt

@[expose] public section

set_option maxRecDepth 16384

noncomputable section

namespace Cert.ReferenceIdeal.Lines
open Idealize.ShloMosaic Idealize.ShloMosaic.TcCoe Idealize.SL.Sem
open Cert.ReferenceIdeal Cert.ReferenceIdeal.Gen
open StableHlo Cert.Layers
variable (V : Valuation τ sig (Elt Ideal)) (d : Dev nD)
set_option maxHeartbeats 400000

/-- Image `n` of the argument. -/
def photo (n : Fin 448) (a b : Fin 45) : EReal :=
  (V (Proc.devRef .tc main_arg0) : FVec Ideal S64x7x1x45x45 .f32) (ix5 ⟨n.val / 7, by omega⟩ ⟨n.val % 7, by omega⟩ 0 a b)

theorem zero_word : (FloatOps.sitofp .f32 (0#32 : BitVec 32) : Ideal .f32) = (0 : EReal) := by
  show (((0#32 : BitVec 32).toInt : ℝ) : EReal) = 0
  simp

/-- Copy `k` of the ringed images is shifted by `k / 3` rows and `k % 3` columns. -/
theorem shifts1_at (n : Fin 448) (y x : Fin 45) :
    (after (shifts1 d) V (Proc.devRef .tc main_v11) : FVec Ideal S448x1x1x45x45 .f32) (ix5 n 0 0 y x) = padded (photo V n) (0 + y.val) (0 + x.val)
    ∧ (after (shifts1 d) V (Proc.devRef .tc main_v12) : FVec Ideal S448x1x1x45x45 .f32) (ix5 n 0 0 y x) = padded (photo V n) (0 + y.val) (1 + x.val)
    ∧ (after (shifts1 d) V (Proc.devRef .tc main_v13) : FVec Ideal S448x1x1x45x45 .f32) (ix5 n 0 0 y x) = padded (photo V n) (0 + y.val) (2 + x.val)
    ∧ (after (shifts1 d) V (Proc.devRef .tc main_v14) : FVec Ideal S448x1x1x45x45 .f32) (ix5 n 0 0 y x) = padded (photo V n) (1 + y.val) (0 + x.val)
    ∧ (after (shifts1 d) V (Proc.devRef .tc main_v15) : FVec Ideal S448x1x1x45x45 .f32) (ix5 n 0 0 y x) = padded (photo V n) (1 + y.val) (1 + x.val)
    ∧ (after (shifts1 d) V (Proc.devRef .tc main_v16) : FVec Ideal S448x1x1x45x45 .f32) (ix5 n 0 0 y x) = padded (photo V n) (1 + y.val) (2 + x.val)
    ∧ (after (shifts1 d) V (Proc.devRef .tc main_v17) : FVec Ideal S448x1x1x45x45 .f32) (ix5 n 0 0 y x) = padded (photo V n) (2 + y.val) (0 + x.val)
    ∧ (after (shifts1 d) V (Proc.devRef .tc main_v18) : FVec Ideal S448x1x1x45x45 .f32) (ix5 n 0 0 y x) = padded (photo V n) (2 + y.val) (1 + x.val)
    ∧ (after (shifts1 d) V (Proc.devRef .tc main_v19) : FVec Ideal S448x1x1x45x45 .f32) (ix5 n 0 0 y x) = padded (photo V n) (2 + y.val) (2 + x.val) := by
  simp only [shifts1, part0, pad, relu, pad_0, List.cons_append, List.nil_append, List.take_succ_cons, List.take_zero]
  and_intros
  all_goals
    after_reads_simp
    simp -implicitDefEqProofs only [TRef.ofBuf_toBuf, TRef.toBuf, TRef.ofBuf, cast_cast, cast_eq]
    clean_types
    pointwise [padded, photo]
    split_ifs <;> first | rfl | exact zero_word | omega | (rw [dif_pos (by omega)]) | (rw [dif_neg (by omega)]; exact zero_word)

/-- The stack's place `k` is copy `k`. -/
theorem stack1_at (n : Fin 448) (y x : Fin 45) (k : Fin 9) (f : ℕ → EReal)
    (h0 : (V (Proc.devRef .tc main_v11) : FVec Ideal S448x1x1x45x45 .f32) (ix5 n 0 0 y x) = f 0)
    (h1 : (V (Proc.devRef .tc main_v12) : FVec Ideal S448x1x1x45x45 .f32) (ix5 n 0 0 y x) = f 1)
    (h2 : (V (Proc.devRef .tc main_v13) : FVec Ideal S448x1x1x45x45 .f32) (ix5 n 0 0 y x) = f 2)
    (h3 : (V (Proc.devRef .tc main_v14) : FVec Ideal S448x1x1x45x45 .f32) (ix5 n 0 0 y x) = f 3)
    (h4 : (V (Proc.devRef .tc main_v15) : FVec Ideal S448x1x1x45x45 .f32) (ix5 n 0 0 y x) = f 4)
    (h5 : (V (Proc.devRef .tc main_v16) : FVec Ideal S448x1x1x45x45 .f32) (ix5 n 0 0 y x) = f 5)
    (h6 : (V (Proc.devRef .tc main_v17) : FVec Ideal S448x1x1x45x45 .f32) (ix5 n 0 0 y x) = f 6)
    (h7 : (V (Proc.devRef .tc main_v18) : FVec Ideal S448x1x1x45x45 .f32) (ix5 n 0 0 y x) = f 7)
    (h8 : (V (Proc.devRef .tc main_v19) : FVec Ideal S448x1x1x45x45 .f32) (ix5 n 0 0 y x) = f 8) :
    (after (stack1 d) V (Proc.devRef .tc main_v20) : FVec Ideal S448x1x9x45x45 .f32) (ix5 n 0 k y x) = f k.val := by
  simp only [stack1, part0, pad, relu, pad_0, List.cons_append, List.nil_append, List.take_succ_cons, List.take_zero, List.drop_succ_cons, List.drop_zero]
  after_reads_simp
  pointwise
  fin_vals k with hk
  all_goals simp only [hk, Nat.reduceSub, Nat.reduceLT, ↓reduceDIte]
  exacts [h0, h1, h2, h3, h4, h5, h6, h7, h8]

/-- The first layer from the stack. -/
theorem layer1_at (n : Fin 448) (c : Fin 32) (y x : Fin 22) (img : Fin 45 → Fin 45 → EReal)
    (h : ∀ (k : Fin 9) (y x : Fin 45), (V (Proc.devRef .tc main_v20) : FVec Ideal S448x1x9x45x45 .f32) (ix5 n 0 k y x) = padded img (y.val + k.val / 3) (x.val + k.val % 3)) :
    (after (layer1 d) V (Proc.devRef .tc main_v31) : FVec Ideal S448x32x22x22 .f32) (ix4 n c y x)
      = peak (conv (fun _ : Fin 1 => img)
          (fun _ k => (V (Proc.devRef .tc main_arg1) : FVec Ideal S32x1x3x3 .f32) (ix4 c 0 ⟨k.val / 3, by omega⟩ ⟨k.val % 3, by omega⟩))
          ((V (Proc.devRef .tc main_arg2) : FVec Ideal S32 .f32) (ix1 c))) y.val x.val := by
  generalize hr : peak _ _ _ = r
  simp only [layer1, part0, pad, relu, pad_0, List.cons_append, List.nil_append, List.take_succ_cons, List.take_zero, List.drop_succ_cons, List.drop_zero]
  after_reads_simp
  simp -implicitDefEqProofs only [TRef.ofBuf_toBuf, TRef.toBuf, TRef.ofBuf, cast_cast, cast_eq]
  clean_types
  pointwise
  refine (fold_cell _ _ lowest n c y x).trans ?_
  pointwise
  subst hr
  simp only [peak, conv, Fin.sum_univ_one, h, Nat.add_zero]
end Cert.ReferenceIdeal.Lines
end
-- ==== Proof.Value.RefSecond.lean ====
/- The reference's second layer at an index. -/
module

public import proofs.«01_k».proof.Proof.Reference.Segments
public import proofs.«01_k».proof.Proof.Value.Layers
public import Idealize.ShloMosaic.Lib.StableHlo.ReadAt

@[expose] public section

set_option maxRecDepth 16384

noncomputable section

namespace Cert.ReferenceIdeal.Lines
open Idealize.ShloMosaic Idealize.ShloMosaic.TcCoe Idealize.SL.Sem
open Cert.ReferenceIdeal Cert.ReferenceIdeal.Gen
open StableHlo Cert.Layers
variable (V : Valuation τ sig (Elt Ideal)) (d : Dev nD)
set_option maxHeartbeats 400000

/-- Channel `c` of the first layer's result on image `n`. -/
def inner (n : Fin 448) (c : Fin 32) (a b : Fin 22) : EReal := (V (Proc.devRef .tc main_v31) : FVec Ideal S448x32x22x22 .f32) (ix4 n c a b)

theorem zero_word' : (FloatOps.sitofp .f32 (0#32 : BitVec 32) : Ideal .f32) = (0 : EReal) := by
  show (((0#32 : BitVec 32).toInt : ℝ) : EReal) = 0
  simp

/-- Copy `k` of the ringed results of the first layer is shifted by `k / 3` rows and `k % 3` columns. -/
theorem shifts2_at (n : Fin 448) (c : Fin 32) (y x : Fin 22) :
    (after (shifts2 d) V (Proc.devRef .tc main_v42) : FVec Ideal S448x32x1x22x22 .f32) (ix5 n c 0 y x) = padded (inner V n c) (0 + y.val) (0 + x.val)
    ∧ (after (shifts2 d) V (Proc.devRef .tc main_v43) : FVec Ideal S448x32x1x22x22 .f32) (ix5 n c 0 y x) = padded (inner V n c) (0 + y.val) (1 + x.val)
    ∧ (after (shifts2 d) V (Proc.devRef .tc main_v44) : FVec Ideal S448x32x1x22x22 .f32) (ix5 n c 0 y x) = padded (inner V n c) (0 + y.val) (2 + x.val)
    ∧ (after (shifts2 d) V (Proc.devRef .tc main_v45) : FVec Ideal S448x32x1x22x22 .f32) (ix5 n c 0 y x) = padded (inner V n c) (1 + y.val) (0 + x.val)
    ∧ (after (shifts2 d) V (Proc.devRef .tc main_v46) : FVec Ideal S448x32x1x22x22 .f32) (ix5 n c 0 y x) = padded (inner V n c) (1 + y.val) (1 + x.val)
    ∧ (after (shifts2 d) V (Proc.devRef .tc main_v47) : FVec Ideal S448x32x1x22x22 .f32) (ix5 n c 0 y x) = padded (inner V n c) (1 + y.val) (2 + x.val)
    ∧ (after (shifts2 d) V (Proc.devRef .tc main_v48) : FVec Ideal S448x32x1x22x22 .f32) (ix5 n c 0 y x) = padded (inner V n c) (2 + y.val) (0 + x.val)
    ∧ (after (shifts2 d) V (Proc.devRef .tc main_v49) : FVec Ideal S448x32x1x22x22 .f32) (ix5 n c 0 y x) = padded (inner V n c) (2 + y.val) (1 + x.val)
    ∧ (after (shifts2 d) V (Proc.devRef .tc main_v50) : FVec Ideal S448x32x1x22x22 .f32) (ix5 n c 0 y x) = padded (inner V n c) (2 + y.val) (2 + x.val) := by
  simp only [shifts2, part0, pad, relu, pad_0, List.cons_append, List.nil_append, List.take_succ_cons, List.take_zero, List.drop_succ_cons, List.drop_zero]
  and_intros
  all_goals
    after_reads_simp
    simp -implicitDefEqProofs only [TRef.ofBuf_toBuf, TRef.toBuf, TRef.ofBuf, cast_cast, cast_eq]
    clean_types
    pointwise [padded, inner]
    split_ifs <;> first | rfl | exact zero_word' | omega | (rw [dif_pos (by omega)]) | (rw [dif_neg (by omega)]; exact zero_word')

/-- The second stack's place `k` is copy `k`. -/
theorem stack2_at (n : Fin 448) (c : Fin 32) (y x : Fin 22) (k : Fin 9) (f : ℕ → EReal)
    (h0 : (V (Proc.devRef .tc main_v42) : FVec Ideal S448x32x1x22x22 .f32) (ix5 n c 0 y x) = f 0)
    (h1 : (V (Proc.devRef .tc main_v43) : FVec Ideal S448x32x1x22x22 .f32) (ix5 n c 0 y x) = f 1)
    (h2 : (V (Proc.devRef .tc main_v44) : FVec Ideal S448x32x1x22x22 .f32) (ix5 n c 0 y x) = f 2)
    (h3 : (V (Proc.devRef .tc main_v45) : FVec Ideal S448x32x1x22x22 .f32) (ix5 n c 0 y x) = f 3)
    (h4 : (V (Proc.devRef .tc main_v46) : FVec Ideal S448x32x1x22x22 .f32) (ix5 n c 0 y x) = f 4)
    (h5 : (V (Proc.devRef .tc main_v47) : FVec Ideal S448x32x1x22x22 .f32) (ix5 n c 0 y x) = f 5)
    (h6 : (V (Proc.devRef .tc main_v48) : FVec Ideal S448x32x1x22x22 .f32) (ix5 n c 0 y x) = f 6)
    (h7 : (V (Proc.devRef .tc main_v49) : FVec Ideal S448x32x1x22x22 .f32) (ix5 n c 0 y x) = f 7)
    (h8 : (V (Proc.devRef .tc main_v50) : FVec Ideal S448x32x1x22x22 .f32) (ix5 n c 0 y x) = f 8) :
    (after (stack2 d) V (Proc.devRef .tc main_v51) : FVec Ideal S448x32x9x22x22 .f32) (ix5 n c k y x) = f k.val := by
  simp only [stack2, part0, pad, relu, pad_0, List.cons_append, List.nil_append, List.take_succ_cons, List.take_zero, List.drop_succ_cons, List.drop_zero]
  after_reads_simp
  pointwise
  fin_vals k with hk
  all_goals simp only [hk, Nat.reduceSub, Nat.reduceLT, ↓reduceDIte]
  exacts [h0, h1, h2, h3, h4, h5, h6, h7, h8]

/-- The second layer from its stack. -/
theorem layer2_at (n : Fin 448) (o : Fin 64) (y x : Fin 11) (img : Fin 32 → Fin 22 → Fin 22 → EReal)
    (h : ∀ (c : Fin 32) (k : Fin 9) (y x : Fin 22), (V (Proc.devRef .tc main_v51) : FVec Ideal S448x32x9x22x22 .f32) (ix5 n c k y x) = padded (img c) (y.val + k.val / 3) (x.val + k.val % 3)) :
    (after (layer2a d ++ layer2b d) V (Proc.devRef .tc main_v61) : FVec Ideal S448x64x11x11 .f32) (ix4 n o y x)
      = peak (conv img
          (fun c k => (V (Proc.devRef .tc main_arg3) : FVec Ideal S64x32x3x3 .f32) (ix4 o c ⟨k.val / 3, by omega⟩ ⟨k.val % 3, by omega⟩))
          ((V (Proc.devRef .tc main_arg4) : FVec Ideal S64 .f32) (ix1 o))) y.val x.val := by
  generalize hr : peak _ _ _ = r
  simp only [layer2a, layer2b, part0, part1, pad, relu, pad_0, relu_1, List.cons_append, List.nil_append, List.take_succ_cons, List.take_zero, List.drop_succ_cons, List.drop_zero]
  after_reads_simp
  simp -implicitDefEqProofs only [TRef.ofBuf_toBuf, TRef.toBuf, TRef.ofBuf, cast_cast, cast_eq]
  clean_types
  pointwise
  refine (fold_cell _ _ lowest n o y x).trans ?_
  pointwise
  subst hr
  simp only [peak, Nat.add_zero]
  have hc := fun (i j : Fin 22) => conv_channels img (fun c a b => (V (Proc.devRef .tc main_arg3) : FVec Ideal S64x32x3x3 .f32) (ix4 o c a b))
    (fun c k => (V (Proc.devRef .tc main_v51) : FVec Ideal S448x32x9x22x22 .f32) (ix5 n c k i j))
    ((V (Proc.devRef .tc main_arg4) : FVec Ideal S64 .f32) (ix1 o)) i.val j.val fun c k => h c k i j
  refine congrArg₂ max (congrArg₂ max ?_ ?_) (congrArg₂ max ?_ ?_)
  all_goals exact hc ⟨_, by omega⟩ ⟨_, by omega⟩

end Cert.ReferenceIdeal.Lines
end
-- ==== Proof.Value.RefTail.lean ====
/- The reference's classifier, draws and results, at an index. -/
module

public import proofs.«01_k».proof.Proof.Reference.Segments
public import proofs.«01_k».proof.Proof.Value.Rows
public import Idealize.ShloMosaic.Lib.Claim
public import Idealize.ShloMosaic.Lib.IdealHost
public import Idealize.ShloMosaic.Lib.StableHlo.ReadAt

@[expose] public section

set_option maxRecDepth 16384

noncomputable section

namespace Cert.ReferenceIdeal.Lines

open Idealize.ShloMosaic Idealize.ShloMosaic.TcCoe Idealize.SL.Sem
open Idealize.ShloMosaic.StableHlo
open Cert.ReferenceIdeal Cert.ReferenceIdeal.Gen Cert.Layers

variable (V : Valuation τ sig (Elt Ideal)) (d : Dev nD)

theorem logits_at (b : Fin 64) (p : Fin 7) (s : Fin 14) :
    (after ((classes d).take 15) V (Proc.devRef .tc main_v74) : FVec Ideal S64x7x14 .f32) (ix3 b p s)
      = logit (fun x => dot (fun r => (V (Proc.devRef .tc main_v61) : FVec Ideal S448x64x11x11 .f32)
            (ix4 ⟨b.val * 7 + p.val, by omega⟩ ⟨r.val / 121, by omega⟩ ⟨r.val / 11 % 11, by omega⟩ ⟨r.val % 11, by omega⟩))
          (fun r => (V (Proc.devRef .tc main_arg5) : FVec Ideal S1024x7744 .f32) (ix2 x r)))
        (fun x => (V (Proc.devRef .tc main_arg6) : FVec Ideal S1024 .f32) (ix1 x))
        (fun s x => (V (Proc.devRef .tc main_arg7) : FVec Ideal S14x1024 .f32) (ix2 s x)) (fun s => (V (Proc.devRef .tc main_arg8) : FVec Ideal S14 .f32) (ix1 s)) s := by
  simp only [classes, part0, part1, relu_1, relu_2, clip, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise
  simp only [logit, dot]

theorem max_lowest (z x : EReal) (h : z = ⊥) : max z x = x := by rw [h]; exact max_eq_right bot_le

theorem soft_at (b : Fin 64) (p : Fin 7) (s : Fin 14) :
    (after (((classes d).drop 15).take 14) V (Proc.devRef .tc main_v85) : FVec Ideal S64x7x14 .f32) (ix3 b p s)
      = soft (fun s => (V (Proc.devRef .tc main_v74) : FVec Ideal S64x7x14 .f32) (ix3 b p s)) s := by
  simp only [classes, part0, part1, relu_1, relu_2, clip, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise
  simp only [max_lowest _ _ lowest]
  simp only [soft, top]

theorem logs_at (b : Fin 64) (p : Fin 7) (s : Fin 14) :
    (after (((classes d).drop 29).take 9) V (Proc.devRef .tc main_v87) : FVec Ideal S64x7x14 .f32) (ix3 b p s)
      = clog ((V (Proc.devRef .tc main_v85) : FVec Ideal S64x7x14 .f32) (ix3 b p s)) := by
  simp only [classes, part0, part1, relu_1, relu_2, clip, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  have one : (id (constant (F := Ideal) S_ .f32 1065353216#32) ix0 : EReal) = 1 := Ideal.ofBits_one_f32
  pointwise
  unfold clog
  exact congrArg Ideal.log (congr (congrArg min one) rfl)

theorem spread_at (b : Fin 64) (p k : Fin 7) (s : Fin 14) :
    (after ((classes d).drop 48) V (Proc.devRef .tc main_v97) : FVec Ideal S64x7x7x14 .f32) (ix4 b p k s)
      = (V (Proc.devRef .tc main_v87) : FVec Ideal S64x7x14 .f32) (ix3 b p s) := by
  simp only [classes, part0, part1, relu_1, relu_2, clip, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise

end Cert.ReferenceIdeal.Lines

end
-- ==== Proof.Value.RefDraws.lean ====
/- The reference's draws, as the picked class of a noisy row. -/
module

public import proofs.«01_k».proof.Proof.Reference.Segments
public import proofs.«01_k».proof.Proof.Value.Rows
public import Idealize.ShloMosaic.Lib.Claim
public import Idealize.ShloMosaic.Lib.StableHlo.ReadAt

@[expose] public section

set_option maxRecDepth 16384

noncomputable section

namespace Cert.ReferenceIdeal.Lines

open Idealize.ShloMosaic Idealize.ShloMosaic.TcCoe Idealize.SL.Sem
open Idealize.ShloMosaic.StableHlo
open Cert.ReferenceIdeal Cert.ReferenceIdeal.Gen Cert.Layers

variable (V : Valuation τ sig (Elt Ideal)) (d : Dev nD)
variable (V : Valuation τ sig (Elt Ideal)) (d : Dev nD)

theorem member_at (b : Fin 64) (p : Fin 7) (s : Fin 14) :
    (after (drawsA d) V (Proc.devRef .tc main_v102) : FVec Ideal S64x7x14 .f32) (ix3 b p s)
      = member (fun j => noisy (fun s => (V (Proc.devRef .tc main_v97) : FVec Ideal S64x7x7x14 .f32) (ix4 b p j s))
          (fun s => (V (Proc.devRef .tc main_v98) : FVec Ideal S64x7x7x14 .f32) (ix4 b p j s))) s := by
  simp only [drawsA, drawsB, part1, relu_1, relu_2, clip, gumbel, uniform, bits, bits0, bits1, bits2, bits3, part2, argmax, one_hot, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise
  simp only [member, top]
  refine congrArg (fun f => Finset.fold max _ f Finset.univ) (funext fun x => ?_)
  refine congrArg (fun k => (FloatOps.uitofp .f32 (IntOp.cmpi .eq k (BitVec.ofNat 32 s.val)) : Ideal .f32)) ((pick _ _ _ b p x).trans ?_)
  exact congrArg best (funext fun s => add_comm _ _)

theorem len_at (b : Fin 64) : (after (drawsA d) V (Proc.devRef .tc main_v105) : IVec S64x1 32) (ix2 b 0) = (V (Proc.devRef .tc main_arg9) : IVec S64 32) (ix1 b) := by
  simp only [drawsA, drawsB, part1, relu_1, relu_2, clip, gumbel, uniform, bits, bits0, bits1, bits2, bits3, part2, argmax, one_hot, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise

theorem pos_at (b : Fin 64) (p : Fin 7) : (after (drawsA d) V (Proc.devRef .tc main_v106) : IVec S64x7 32) (ix2 b p) = BitVec.ofNat 32 p.val := by
  simp only [drawsA, drawsB, part1, relu_1, relu_2, clip, gumbel, uniform, bits, bits0, bits1, bits2, bits3, part2, argmax, one_hot, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise

theorem symbol_at (b : Fin 64) (p : Fin 7) (s : Fin 14) :
    (after (drawsB d) V (Proc.devRef .tc main_v113) : FVec Ideal S64x7x14 .f32) (ix3 b p s)
      = symbol ((V (Proc.devRef .tc main_v85) : FVec Ideal S64x7x14 .f32) (ix3 b p s))
          ((V (Proc.devRef .tc main_v102) : FVec Ideal S64x7x14 .f32) (ix3 b p s)) ((V (Proc.devRef .tc main_v106) : IVec S64x7 32) (ix2 b p)) ((V (Proc.devRef .tc main_v105) : IVec S64x1 32) (ix2 b 0)) := by
  simp only [drawsA, drawsB, part1, relu_1, relu_2, clip, gumbel, uniform, bits, bits0, bits1, bits2, bits3, part2, argmax, one_hot, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  pointwise
  simp only [symbol]

end Cert.ReferenceIdeal.Lines

end
-- ==== Proof.Value.RefResult.lean ====
/- The reference leaves the two results in its output arrays. -/
module

public import proofs.«01_k».proof.Proof.Reference.Run
public import proofs.«01_k».proof.Proof.Value.Result
public import proofs.«01_k».proof.Proof.Value.RefFirst
public import proofs.«01_k».proof.Proof.Value.RefSecond
public import proofs.«01_k».proof.Proof.Value.RefTail
public import proofs.«01_k».proof.Proof.Value.RefDraws

@[expose] public section

set_option maxRecDepth 16384

noncomputable section

namespace Cert.ReferenceIdeal.Lines

open Idealize.ShloMosaic Idealize.ShloMosaic.TcCoe Idealize.SL.Sem
open Idealize.ShloMosaic.StableHlo
open Cert.ReferenceIdeal Cert.ReferenceIdeal.Gen Cert.Layers

variable (V : Valuation τ sig (Elt Ideal)) (d : Dev nD)

/-- The inputs as the buffers hold them. -/
def inputs : Inputs where
  photos := V (Proc.devRef .tc main_arg0)
  w1 := V (Proc.devRef .tc main_arg1)
  b1 := V (Proc.devRef .tc main_arg2)
  w2 := V (Proc.devRef .tc main_arg3)
  b2 := V (Proc.devRef .tc main_arg4)
  w3 := V (Proc.devRef .tc main_arg5)
  b3 := V (Proc.devRef .tc main_arg6)
  w4 := V (Proc.devRef .tc main_arg7)
  b4 := V (Proc.devRef .tc main_arg8)
  lens := V (Proc.devRef .tc main_arg9)

/-- Operations of @main keep an argument. -/
theorem arg_keep (l : List (HloOp τ sig (Elt Ideal))) (hl : ∀ op ∈ l, op ∈ (all d).1) (W : Valuation τ sig (Elt Ideal)) {b : Ref sig .tc} (h : b ∈ argRefs) :
    after l W (Proc.devRef .tc b) = W (Proc.devRef .tc b) := by
  refine after_of_forall_not_mem _ _ fun op hop => ?_
  obtain ⟨y, hw, hy⟩ := (keeps_all d op (hl op hop)).writes
  rw [hw, Finset.mem_singleton]
  exact devRef_ne_of_ne fun e => hy (e ▸ h)

/-- The operations up to the first layer's result, up to the second's, and those of the key. -/
def head1 := shifts1 (F := Ideal) d ++ (stack1 d ++ layer1 d)
def head2 := shifts2 (F := Ideal) d ++ (stack2 d ++ (layer2a d ++ layer2b d))
def keyed := ((classes (F := Ideal) d).drop 38).take 10

theorem classes_cut : classes (F := Ideal) d = (classes d).take 15 ++ (((classes d).drop 15).take 14 ++ (((classes d).drop 29).take 9
    ++ (keyed d ++ (classes d).drop 48))) := rfl

theorem cut : (all (F := Ideal) d).1 = head1 d ++ (head2 d ++ (classes d ++ (noise d ++ (drawsA d ++ drawsB d)))) := by
  rw [all_cut]; simp only [head1, head2, List.append_assoc]

theorem head1_sub : ∀ op ∈ head1 d, op ∈ (all (F := Ideal) d).1 := fun op h => by
  rw [cut]; exact List.mem_append_left _ h
theorem head2_sub : ∀ op ∈ head2 d, op ∈ (all (F := Ideal) d).1 := fun op h => by
  rw [cut]; exact List.mem_append_right _ (List.mem_append_left _ h)
theorem classes_sub : ∀ op ∈ classes d, op ∈ (all (F := Ideal) d).1 := fun op h => by
  rw [cut]; exact List.mem_append_right _ (List.mem_append_right _ (List.mem_append_left _ h))
theorem noise_sub : ∀ op ∈ noise d, op ∈ (all (F := Ideal) d).1 := fun op h => by
  rw [cut]; exact List.mem_append_right _ (List.mem_append_right _ (List.mem_append_right _ (List.mem_append_left _ h)))

/-- The first layer's result. -/
theorem first_at (n : Fin 448) (c : Fin 32) (y x : Fin 22) :
    (after (head1 d) V (Proc.devRef .tc main_v31) : FVec Ideal S448x32x22x22 .f32) (ix4 n c y x) = first (inputs V) n c y x := by
  unfold head1
  rw [after_append, after_append]
  have hs : ∀ op ∈ shifts1 d ++ stack1 d, op ∈ (all (F := Ideal) d).1 := fun op h => by
    refine head1_sub d op ?_
    unfold head1
    rw [← List.append_assoc]; exact List.mem_append_left _ h
  have ha : ∀ {b : Ref sig .tc}, b ∈ argRefs → after (stack1 d) (after (shifts1 d) V) (Proc.devRef .tc b) = V (Proc.devRef .tc b) := fun {b} hb => by
    rw [← after_append]; exact arg_keep d _ hs V hb
  refine (layer1_at _ d n c y x (shot (inputs V) n) fun k i j => ?_).trans ?_
  · obtain ⟨h0, h1, h2, h3, h4, h5, h6, h7, h8⟩ := shifts1_at V d n i j
    refine (stack1_at _ d n i j k (fun k => padded (photo V n) (k / 3 + i.val) (k % 3 + j.val)) h0 h1 h2 h3 h4 h5 h6 h7 h8).trans ?_
    rw [Nat.add_comm (k.val / 3), Nat.add_comm (k.val % 3)]
    rfl
  · unfold first
    refine congrArg (fun f => peak f y.val x.val) (congr (congrArg (conv (fun _ : Fin 1 => shot (inputs V) n)) (funext fun _ => funext fun k => ?_)) ?_)
    · exact congrFun (ha (by simp)) _
    · exact congrFun (ha (by simp)) _

/-- The second layer's result. -/
theorem second_at (I : Inputs) (n : Fin 448) (h : ∀ c y x, (V (Proc.devRef .tc main_v31) : FVec Ideal S448x32x22x22 .f32) (ix4 n c y x) = first I n c y x)
    (hw : (V (Proc.devRef .tc main_arg3) : FVec Ideal S64x32x3x3 .f32) = I.w2) (hb : (V (Proc.devRef .tc main_arg4) : FVec Ideal S64 .f32) = I.b2)
    (o : Fin 64) (y x : Fin 11) :
    (after (head2 d) V (Proc.devRef .tc main_v61) : FVec Ideal S448x64x11x11 .f32) (ix4 n o y x) = second I n o y.val x.val := by
  unfold head2
  rw [after_append, after_append]
  have hs : ∀ op ∈ shifts2 d ++ stack2 d, op ∈ (all (F := Ideal) d).1 := fun op h => by
    refine head2_sub d op ?_
    unfold head2
    rw [← List.append_assoc]; exact List.mem_append_left _ h
  have ha : ∀ {b : Ref sig .tc}, b ∈ argRefs → after (stack2 d) (after (shifts2 d) V) (Proc.devRef .tc b) = V (Proc.devRef .tc b) := fun {b} hb => by
    rw [← after_append]; exact arg_keep d _ hs V hb
  have hi : ∀ c, inner V n c = first I n c := fun c => funext fun a => funext fun b => h c a b
  refine (layer2_at _ d n o y x (first I n) fun c k i j => ?_).trans ?_
  · obtain ⟨h0, h1, h2, h3, h4, h5, h6, h7, h8⟩ := shifts2_at V d n c i j
    refine (stack2_at _ d n c i j k (fun k => padded (inner V n c) (k / 3 + i.val) (k % 3 + j.val)) h0 h1 h2 h3 h4 h5 h6 h7 h8).trans ?_
    show padded (inner V n c) (k.val / 3 + i.val) (k.val % 3 + j.val) = _
    rw [Nat.add_comm (k.val / 3), Nat.add_comm (k.val % 3), hi]
  · unfold second
    refine congrArg (fun f => peak f y.val x.val) (congr (congrArg (conv (first I n)) (funext fun c => funext fun k => ?_)) ?_)
    · exact congrFun ((ha (by simp)).trans hw) _
    · exact congrFun ((ha (by simp)).trans hb) _

/-- The probabilities and the noiseless draws. -/
theorem classes_at (I : Inputs) (b : Fin 64) (p : Fin 7)
    (h : ∀ o y x, (V (Proc.devRef .tc main_v61) : FVec Ideal S448x64x11x11 .f32) (ix4 (place b p) o y x) = second I (place b p) o y.val x.val)
    (h5 : (V (Proc.devRef .tc main_arg5) : FVec Ideal S1024x7744 .f32) = I.w3) (h6 : (V (Proc.devRef .tc main_arg6) : FVec Ideal S1024 .f32) = I.b3)
    (h7 : (V (Proc.devRef .tc main_arg7) : FVec Ideal S14x1024 .f32) = I.w4) (h8 : (V (Proc.devRef .tc main_arg8) : FVec Ideal S14 .f32) = I.b4) (s : Fin 14) :
    (after (classes d) V (Proc.devRef .tc main_v85) : FVec Ideal S64x7x14 .f32) (ix3 b p s) = soft (scores I (place b p)) s
    ∧ ∀ j : Fin 7, (after (classes d) V (Proc.devRef .tc main_v97) : FVec Ideal S64x7x7x14 .f32) (ix4 b p j s) = clog (soft (scores I (place b p)) s) := by
  rw [classes_cut, after_append, after_append, after_append, after_append]
  have k1 : ∀ W : Valuation τ sig (Elt Ideal), after ((classes d).drop 48) W (Proc.devRef .tc main_v85) = W (Proc.devRef .tc main_v85) := fun W => by
    simp only [classes, part0, part1, relu_1, relu_2, clip, List.cons_append, List.nil_append, List.append_nil, List.take_succ_cons, List.take_zero, List.take_nil, List.drop_succ_cons, List.drop_zero]; after_reads_simp
  have k2 : ∀ W : Valuation τ sig (Elt Ideal), after (keyed d) W (Proc.devRef .tc main_v85) = W (Proc.devRef .tc main_v85) := fun W => by
    simp only [keyed, classes, part0, part1, relu_1, relu_2, clip, List.cons_append, List.nil_append, List.append_nil, List.take_succ_cons, List.take_zero, List.take_nil, List.drop_succ_cons, List.drop_zero]; after_reads_simp
  have k3 : ∀ W : Valuation τ sig (Elt Ideal), after (((classes d).drop 29).take 9) W (Proc.devRef .tc main_v85) = W (Proc.devRef .tc main_v85) := fun W => by
    simp only [classes, part0, part1, relu_1, relu_2, clip, List.cons_append, List.nil_append, List.append_nil, List.take_succ_cons, List.take_zero, List.take_nil, List.drop_succ_cons, List.drop_zero]; after_reads_simp
  have k4 : ∀ W : Valuation τ sig (Elt Ideal), after (keyed d) W (Proc.devRef .tc main_v87) = W (Proc.devRef .tc main_v87) := fun W => by
    simp only [keyed, classes, part0, part1, relu_1, relu_2, clip, List.cons_append, List.nil_append, List.append_nil, List.take_succ_cons, List.take_zero, List.take_nil, List.drop_succ_cons, List.drop_zero]; after_reads_simp
  have l : ∀ s, (after ((classes d).take 15) V (Proc.devRef .tc main_v74) : FVec Ideal S64x7x14 .f32) (ix3 b p s) = scores I (place b p) s := fun s => by
    refine (logits_at V d b p s).trans ?_
    unfold scores
    refine congrFun (congr (congr (congr (congrArg logit (funext fun x => ?_)) (funext fun x => ?_)) (funext fun s => funext fun x => ?_)) (funext fun s => ?_)) s
    · exact congr (congrArg dot (funext fun r => h _ _ _)) (funext fun r => congrFun h5 _)
    · exact congrFun h6 _
    · exact congrFun h7 _
    · exact congrFun h8 _
  have r : ∀ s, (after (((classes d).drop 15).take 14) (after ((classes d).take 15) V) (Proc.devRef .tc main_v85) : FVec Ideal S64x7x14 .f32) (ix3 b p s)
      = soft (scores I (place b p)) s := fun s => (soft_at _ d b p s).trans (congrArg (fun f => soft f s) (funext l))
  refine ⟨?_, fun j => ?_⟩
  · exact (congrFun ((k1 _).trans ((k2 _).trans (k3 _))) _).trans (r s)
  · exact (spread_at _ d b p j s).trans ((congrFun (k4 _) _).trans ((logs_at _ d b p s).trans (congrArg clog (r s))))

set_option maxHeartbeats 4000000 in
theorem noise_keeps : ∀ op ∈ noise (F := Ideal) d, ∃ y : Ref sig .tc, op.writes = {Proc.devRef (τ := τ) .tc y} ∧ y ∉ [main_v85, main_v97] := by
  rw [← List.forall_iff_forall_mem]
  simp only [noise, gumbel, uniform, bits, bits0, bits1, bits2, bits3, List.append_assoc, List.cons_append, List.nil_append, List.append_nil, List.forall_cons, List.Forall]
  and_intros
  all_goals first
    | exact ⟨_, unary_writes .., by decide⟩ | exact ⟨_, binary_writes .., by decide⟩ | exact ⟨_, nullary_writes .., by decide⟩
    | exact ⟨_, reshape_writes .., by decide⟩ | exact ⟨_, nary_writes .., by decide⟩ | exact ⟨_, quaternary_writes .., by decide⟩ | trivial

theorem noise_keep (W : Valuation τ sig (Elt Ideal)) {b : Ref sig .tc} (h : b ∈ [main_v85, main_v97]) :
    after (noise d) W (Proc.devRef .tc b) = W (Proc.devRef .tc b) := by
  refine after_of_forall_not_mem _ _ fun op hop => ?_
  obtain ⟨y, hw, hy⟩ := noise_keeps d op hop
  rw [hw, Finset.mem_singleton]
  exact devRef_ne_of_ne fun e => hy (e ▸ h)

/-- The contents when the noise has been drawn, and that noise. -/
def drawn : Valuation τ sig (Elt Ideal) := after (noise d) (after (classes d) (after (head2 d) (after (head1 d) V)))
def noiseOf : FVec Ideal S64x7x7x14 .f32 := drawn V d (Proc.devRef .tc main_v98)

theorem whole : after (all (F := Ideal) d).1 V = after (drawsB d) (after (drawsA d) (drawn V d)) := by
  rw [cut, after_append, after_append, after_append, after_append, after_append]; rfl

theorem drawn_at (b : Fin 64) (p : Fin 7) (s : Fin 14) :
    (drawn V d (Proc.devRef .tc main_v85) : FVec Ideal S64x7x14 .f32) (ix3 b p s) = soft (scores (inputs V) (place b p)) s
    ∧ ∀ j : Fin 7, (drawn V d (Proc.devRef .tc main_v97) : FVec Ideal S64x7x7x14 .f32) (ix4 b p j s) = clog (soft (scores (inputs V) (place b p)) s) := by
  have ha1 : ∀ {b : Ref sig .tc}, b ∈ argRefs → after (head1 d) V (Proc.devRef .tc b) = V (Proc.devRef .tc b) := fun hb => arg_keep d _ (head1_sub d) V hb
  have ha2 : ∀ {b : Ref sig .tc}, b ∈ argRefs → after (head2 d) (after (head1 d) V) (Proc.devRef .tc b) = V (Proc.devRef .tc b) := fun hb =>
    (arg_keep d _ (head2_sub d) _ hb).trans (ha1 hb)
  obtain ⟨h1, h2⟩ := classes_at (after (head2 d) (after (head1 d) V)) d (inputs V) b p
    (second_at (after (head1 d) V) d (inputs V) (place b p) (fun c y x => first_at V d (place b p) c y x) (ha1 (by simp)) (ha1 (by simp)))
    (ha2 (by simp)) (ha2 (by simp)) (ha2 (by simp)) (ha2 (by simp)) s
  exact ⟨(congrFun (noise_keep d _ (by simp)) _).trans h1, fun j => (congrFun (noise_keep d _ (by simp)) _).trans (h2 j)⟩

theorem members_pre (b : Fin 64) (p : Fin 7) (s : Fin 14) :
    (after (drawsA d) (drawn V d) (Proc.devRef .tc main_v102) : FVec Ideal S64x7x14 .f32) (ix3 b p s) = members (inputs V) (noiseOf V d) b p s := by
  refine (member_at _ d b p s).trans ?_
  unfold members
  exact congrArg (fun f => member f s) (funext fun j => congrArg (fun l => noisy l _) (funext fun s => (drawn_at V d b p s).2 j))

/-- The membership result. -/
theorem members_at (b : Fin 64) (p : Fin 7) (s : Fin 14) :
    (after (all (F := Ideal) d).1 V (Proc.devRef .tc main_v102) : FVec Ideal S64x7x14 .f32) (ix3 b p s) = members (inputs V) (noiseOf V d) b p s := by
  rw [whole]
  have k : ∀ W : Valuation τ sig (Elt Ideal), after (drawsB d) W (Proc.devRef .tc main_v102) = W (Proc.devRef .tc main_v102) := fun W => by
    simp only [drawsA, drawsB, part2, gumbel, uniform, bits, bits0, bits1, bits2, bits3, argmax, one_hot, part0, part1, relu_1, relu_2, clip, List.cons_append, List.nil_append, List.append_nil, List.take_succ_cons, List.take_zero, List.take_nil, List.drop_succ_cons, List.drop_zero]; after_reads_simp
  exact (congrFun (k _) _).trans (members_pre V d b p s)

/-- The symbol result. -/
theorem symbols_at (b : Fin 64) (p : Fin 7) (s : Fin 14) :
    (after (all (F := Ideal) d).1 V (Proc.devRef .tc main_v113) : FVec Ideal S64x7x14 .f32) (ix3 b p s) = symbols (inputs V) (noiseOf V d) b p s := by
  rw [whole]
  have k : ∀ W : Valuation τ sig (Elt Ideal), after (drawsA d) W (Proc.devRef .tc main_v85) = W (Proc.devRef .tc main_v85) := fun W => by
    simp only [drawsA, drawsB, part2, gumbel, uniform, bits, bits0, bits1, bits2, bits3, argmax, one_hot, part0, part1, relu_1, relu_2, clip, List.cons_append, List.nil_append, List.append_nil, List.take_succ_cons, List.take_zero, List.take_nil, List.drop_succ_cons, List.drop_zero]; after_reads_simp
  have hl : (drawn V d (Proc.devRef .tc main_arg9) : IVec S64 32) = (inputs V).lens :=
    (arg_keep d _ (noise_sub d) _ (by simp)).trans ((arg_keep d _ (classes_sub d) _ (by simp)).trans
      ((arg_keep d _ (head2_sub d) _ (by simp)).trans (arg_keep d _ (head1_sub d) _ (by simp))))
  refine (symbol_at _ d b p s).trans ?_
  unfold symbols
  refine congr (congr (congr (congrArg symbol ?_) ?_) ?_) ?_
  · exact (congrFun (k _) _).trans (drawn_at V d b p s).1
  · exact members_pre V d b p s
  · exact pos_at _ d b p
  · exact (len_at _ d b).trans (congrFun hl _)

end Cert.ReferenceIdeal.Lines

end
-- ==== Proof.Value.Noise.lean ====
/- From equal keys the two host programs make the same noise: they are compared operation by operation. -/
module

public import proofs.«01_k».proof.Proof.KernelIdeal.FcBody
public import proofs.«01_k».proof.Proof.Reference.Lines
public import Idealize.ShloMosaic.Lib.StableHlo.ReadAt

@[expose] public section

set_option maxRecDepth 16384

noncomputable section

namespace Cert.Noise

open Idealize.ShloMosaic Idealize.ShloMosaic.TcCoe Idealize.SL.Sem Idealize.ShloMosaic.StableHlo

variable {F : FTy → Type} [FloatOps F]

/-- The kernel's noise, operation by operation. -/
def ours : List (HloOp Cert.KernelIdeal.τ Cert.KernelIdeal.sig (Elt F)) := Cert.KernelIdeal.Gen.hostOps1_1

/-- The reference's noise, operation by operation. -/
def theirs : List (HloOp Cert.ReferenceIdeal.τ Cert.ReferenceIdeal.sig (Elt F)) :=
  (Cert.ReferenceIdeal.Lines.gumbel (F := F) (.of Cert.ReferenceIdeal.main_v94) Cert.ReferenceIdeal.main_call6).1

variable (V : Valuation Cert.KernelIdeal.τ Cert.KernelIdeal.sig (Elt F)) (V' : Valuation Cert.ReferenceIdeal.τ Cert.ReferenceIdeal.sig (Elt F))

/-- What is still read after 0 operations is the same on both sides. -/
def Same0 : Prop :=
  (V (Proc.devRef .tc Cert.KernelIdeal.main_v19) : Cert.KernelIdeal.S2.Idx → BitVec 32) = V' (Proc.devRef .tc Cert.ReferenceIdeal.main_v94)

/-- What is still read after 40 operations is the same on both sides. -/
def Same40 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v3) : Cert.KernelIdeal.S64x7x7x14.Idx → BitVec 32) = V' (Proc.devRef .tc Cert.ReferenceIdeal.main_call6_call0_call0_v3)
    ∧ (V (Proc.devRef .tc Cert.KernelIdeal.main_call0_call0_call0_v5) : Cert.KernelIdeal.S64x7x7x14.Idx → BitVec 32) = V' (Proc.devRef .tc Cert.ReferenceIdeal.main_call6_call0_call0_v5)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)
    ∧ (V (Proc.devRef .tc Cert.KernelIdeal.main_call0_call0_v6) : Cert.KernelIdeal.S_.Idx → BitVec 32) = V' (Proc.devRef .tc Cert.ReferenceIdeal.main_call6_call0_v6)

/-- What is still read after 80 operations is the same on both sides. -/
def Same80 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v35) : Cert.KernelIdeal.S64x7x7x14.Idx → BitVec 32) = V' (Proc.devRef .tc Cert.ReferenceIdeal.main_call6_call0_call0_v35)
    ∧ (V (Proc.devRef .tc Cert.KernelIdeal.main_call0_call0_call0_v37) : Cert.KernelIdeal.S64x7x7x14.Idx → BitVec 32) = V' (Proc.devRef .tc Cert.ReferenceIdeal.main_call6_call0_call0_v37)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)
    ∧ (V (Proc.devRef .tc Cert.KernelIdeal.main_call0_call0_v6) : Cert.KernelIdeal.S_.Idx → BitVec 32) = V' (Proc.devRef .tc Cert.ReferenceIdeal.main_call6_call0_v6)

/-- What is still read after 120 operations is the same on both sides. -/
def Same120 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v61) : Cert.KernelIdeal.S64x7x7x14.Idx → BitVec 32) = V' (Proc.devRef .tc Cert.ReferenceIdeal.main_call6_call0_call0_v61)
    ∧ (V (Proc.devRef .tc Cert.KernelIdeal.main_call0_call0_call0_v67) : Cert.KernelIdeal.S64x7x7x14.Idx → BitVec 32) = V' (Proc.devRef .tc Cert.ReferenceIdeal.main_call6_call0_call0_v67)
    ∧ (V (Proc.devRef .tc Cert.KernelIdeal.main_call0_call0_call0_v68) : Cert.KernelIdeal.S64x7x7x14.Idx → BitVec 32) = V' (Proc.devRef .tc Cert.ReferenceIdeal.main_call6_call0_call0_v68)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)
    ∧ (V (Proc.devRef .tc Cert.KernelIdeal.main_call0_call0_v6) : Cert.KernelIdeal.S_.Idx → BitVec 32) = V' (Proc.devRef .tc Cert.ReferenceIdeal.main_call6_call0_v6)

/-- What is still read after 160 operations is the same on both sides. -/
def Same160 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v95) : Cert.KernelIdeal.S64x7x7x14.Idx → BitVec 32) = V' (Proc.devRef .tc Cert.ReferenceIdeal.main_call6_call0_call0_v95)
    ∧ (V (Proc.devRef .tc Cert.KernelIdeal.main_call0_call0_call0_v97) : Cert.KernelIdeal.S64x7x7x14.Idx → BitVec 32) = V' (Proc.devRef .tc Cert.ReferenceIdeal.main_call6_call0_call0_v97)
    ∧ (V (Proc.devRef .tc Cert.KernelIdeal.main_call0_call0_call0_v99) : Cert.KernelIdeal.S64x7x7x14.Idx → BitVec 32) = V' (Proc.devRef .tc Cert.ReferenceIdeal.main_call6_call0_call0_v99)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)
    ∧ (V (Proc.devRef .tc Cert.KernelIdeal.main_call0_call0_v6) : Cert.KernelIdeal.S_.Idx → BitVec 32) = V' (Proc.devRef .tc Cert.ReferenceIdeal.main_call6_call0_v6)

/-- What is still read after 200 operations is the same on both sides. -/
def Same200 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v128) : Cert.KernelIdeal.S64x7x7x14.Idx → BitVec 32) = V' (Proc.devRef .tc Cert.ReferenceIdeal.main_call6_call0_call0_v128)
    ∧ (V (Proc.devRef .tc Cert.KernelIdeal.main_call0_call0_call0_v129) : Cert.KernelIdeal.S64x7x7x14.Idx → BitVec 32) = V' (Proc.devRef .tc Cert.ReferenceIdeal.main_call6_call0_call0_v129)
    ∧ (V (Proc.devRef .tc Cert.KernelIdeal.main_call0_call0_call0_v131) : Cert.KernelIdeal.S64x7x7x14.Idx → BitVec 32) = V' (Proc.devRef .tc Cert.ReferenceIdeal.main_call6_call0_call0_v131)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)
    ∧ (V (Proc.devRef .tc Cert.KernelIdeal.main_call0_call0_v6) : Cert.KernelIdeal.S_.Idx → BitVec 32) = V' (Proc.devRef .tc Cert.ReferenceIdeal.main_call6_call0_v6)

/-- What is still read after 240 operations is the same on both sides. -/
def Same240 : Prop :=
  (V (Proc.devRef .tc Cert.KernelIdeal.main_call0_call0_call0_v1) : Cert.KernelIdeal.S_.Idx → BitVec 32) = V' (Proc.devRef .tc Cert.ReferenceIdeal.main_call6_call0_call0_v1)
    ∧ (V (Proc.devRef .tc Cert.KernelIdeal.main_call0_call0_call0_v162) : Cert.KernelIdeal.S64x7x7x14.Idx → BitVec 32) = V' (Proc.devRef .tc Cert.ReferenceIdeal.main_call6_call0_call0_v162)
    ∧ (V (Proc.devRef .tc Cert.KernelIdeal.main_call0_call0_call0_v163) : Cert.KernelIdeal.S64x7x7x14.Idx → BitVec 32) = V' (Proc.devRef .tc Cert.ReferenceIdeal.main_call6_call0_call0_v163)
    ∧ (V (Proc.devRef .tc Cert.KernelIdeal.main_call0_call0_v1) : Cert.KernelIdeal.S1x1x1x1.Idx → F .f32) = V' (Proc.devRef .tc Cert.ReferenceIdeal.main_call6_call0_v1)
    ∧ (V (Proc.devRef .tc Cert.KernelIdeal.main_call0_call0_v2) : Cert.KernelIdeal.S1x1x1x1.Idx → F .f32) = V' (Proc.devRef .tc Cert.ReferenceIdeal.main_call6_call0_v2)
    ∧ (V (Proc.devRef .tc Cert.KernelIdeal.main_call0_call0_v4) : Cert.KernelIdeal.S_.Idx → BitVec 32) = V' (Proc.devRef .tc Cert.ReferenceIdeal.main_call6_call0_v4)

/-- What is still read after 277 operations is the same on both sides. -/
def Same277 : Prop :=
  (V (Proc.devRef .tc Cert.KernelIdeal.main_v20) : Cert.KernelIdeal.S64x7x7x14.Idx → F .f32) = V' (Proc.devRef .tc Cert.ReferenceIdeal.main_v98)

set_option maxHeartbeats 1600000 in
theorem stage0 (h : Same0 V V') : Same40 (after ((ours.drop 0).take 40) V) (after ((theirs.drop 0).take 40) V') := by
  unfold Same0 at h
  unfold Same40
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h]
  and_intros <;> first | rfl | trivial

set_option maxHeartbeats 1600000 in
theorem stage40 (h : Same40 V V') : Same80 (after ((ours.drop 40).take 40) V) (after ((theirs.drop 40).take 40) V') := by
  obtain ⟨h0, h1, h2, h3, h4, h5, h6⟩ := h
  unfold Same80
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5, h6]
  and_intros <;> first | rfl | trivial

set_option maxHeartbeats 1600000 in
theorem stage80 (h : Same80 V V') : Same120 (after ((ours.drop 80).take 40) V) (after ((theirs.drop 80).take 40) V') := by
  obtain ⟨h0, h1, h2, h3, h4, h5, h6⟩ := h
  unfold Same120
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5, h6]
  and_intros <;> first | rfl | trivial

set_option maxHeartbeats 1600000 in
theorem stage120 (h : Same120 V V') : Same160 (after ((ours.drop 120).take 40) V) (after ((theirs.drop 120).take 40) V') := by
  obtain ⟨h0, h1, h2, h3, h4, h5, h6, h7⟩ := h
  unfold Same160
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5, h6, h7]
  and_intros <;> first | rfl | trivial

set_option maxHeartbeats 1600000 in
theorem stage160 (h : Same160 V V') : Same200 (after ((ours.drop 160).take 40) V) (after ((theirs.drop 160).take 40) V') := by
  obtain ⟨h0, h1, h2, h3, h4, h5, h6, h7⟩ := h
  unfold Same200
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5, h6, h7]
  and_intros <;> first | rfl | trivial

set_option maxHeartbeats 1600000 in
theorem stage200 (h : Same200 V V') : Same240 (after ((ours.drop 200).take 40) V) (after ((theirs.drop 200).take 40) V') := by
  obtain ⟨h0, h1, h2, h3, h4, h5, h6, h7⟩ := h
  unfold Same240
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5, h6, h7]
  and_intros <;> first | rfl | trivial

set_option maxHeartbeats 1600000 in
theorem stage240 (h : Same240 V V') : Same277 (after (ours.drop 240) V) (after (theirs.drop 240) V') := by
  obtain ⟨h0, h1, h2, h3, h4, h5⟩ := h
  unfold Same277
  simp only [ours, theirs, Cert.ReferenceIdeal.Lines.gumbel, Cert.ReferenceIdeal.Lines.uniform, Cert.ReferenceIdeal.Lines.bits, Cert.ReferenceIdeal.Lines.bits0, Cert.ReferenceIdeal.Lines.bits1, Cert.ReferenceIdeal.Lines.bits2, Cert.ReferenceIdeal.Lines.bits3, List.append_assoc, List.cons_append, List.nil_append, List.append_nil,
    List.take_succ_cons, List.take_zero, List.drop_succ_cons, List.drop_zero, List.take_nil]
  after_reads_simp
  simp -implicitDefEqProofs only [TRef.ofBuf_toBuf, TRef.toBuf, TRef.ofBuf, cast_cast, cast_eq]
  clean_types
  rw [h0, h1, h2, h3, h4, h5]

theorem after_cut {τ : Topo} {sig : RefSig} {F : FTy → Type} (l : List (HloOp τ sig (Elt F))) (a n : ℕ) (V : Valuation τ sig (Elt F)) :
    after (l.drop a) V = after (l.drop (a + n)) (after ((l.drop a).take n) V) := by
  rw [← StableHlo.after_append, ← List.drop_drop, List.take_append_drop]

/-- From one key the two sides draw one noise. -/
theorem noise_same (h : Same0 V V') : Same277 (after ours V) (after theirs V') := by
  have e : ∀ {τ : Topo} {sig : RefSig} (l : List (HloOp τ sig (Elt F))) (V : Valuation τ sig (Elt F)), after l V
      = after (l.drop 240) (after ((l.drop 200).take 40) (after ((l.drop 160).take 40) (after ((l.drop 120).take 40)
          (after ((l.drop 80).take 40) (after ((l.drop 40).take 40) (after ((l.drop 0).take 40) V)))))) := fun l V => by
    rw [← after_cut l 200 40, ← after_cut l 160 40, ← after_cut l 120 40, ← after_cut l 80 40, ← after_cut l 40 40, ← after_cut l 0 40, List.drop_zero]
  rw [e ours, e theirs]
  exact stage240 _ _ (stage200 _ _ (stage160 _ _ (stage120 _ _ (stage80 _ _ (stage40 _ _ (stage0 _ _ h))))))

end Cert.Noise

end
-- ==== Proof.Value.Key.lean ====
/- Both sides draw from one key. -/
module

public import proofs.«01_k».proof.Proof.Reference.Segments
public import proofs.«01_k».proof.Proof.Value.Noise
public import Idealize.ShloMosaic.Lib.Claim
public import Idealize.ShloMosaic.Lib.StableHlo.ReadAt

@[expose] public section

set_option maxRecDepth 16384

noncomputable section

namespace Cert.Noise

open Idealize.ShloMosaic Idealize.ShloMosaic.TcCoe Idealize.SL.Sem Idealize.ShloMosaic.StableHlo

variable {F : FTy → Type} [FloatOps F]
variable (V : Valuation Cert.KernelIdeal.τ Cert.KernelIdeal.sig (Elt F)) (V' : Valuation Cert.ReferenceIdeal.τ Cert.ReferenceIdeal.sig (Elt F))

open Cert.ReferenceIdeal.Lines in
theorem key_same (d : Dev Cert.ReferenceIdeal.nD) : Same0 (after Cert.KernelIdeal.Gen.hostOps1 V) (after (((classes d).drop 38).take 10) V') := by
  unfold Same0
  simp only [classes, part1, relu_1, relu_2, clip, List.cons_append, List.nil_append, List.append_nil, List.take_succ_cons, List.take_zero, List.take_nil, List.drop_succ_cons, List.drop_zero]
  after_reads_simp
  try simp -implicitDefEqProofs only [TRef.ofBuf_toBuf, TRef.toBuf, TRef.ofBuf, cast_cast, cast_eq]
  clean_types
  rfl

end Cert.Noise

end
-- ==== Proof.Value.Same.lean ====
/- From the same inputs the kernel and the reference leave the same results. -/
module

public import proofs.«01_k».proof.Proof.Value.KernelResult
public import proofs.«01_k».proof.Proof.Value.RefResult
public import proofs.«01_k».proof.Proof.Value.Noise
public import proofs.«01_k».proof.Proof.Value.Key

@[expose] public section

set_option maxRecDepth 16384

noncomputable section

namespace Cert.Same

open Idealize.ShloMosaic Idealize.ShloMosaic.TcCoe Idealize.SL.Sem
open Idealize.ShloMosaic.StableHlo

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (d : Dev Cert.ReferenceIdeal.nD)

open Cert.ReferenceIdeal.Lines in
/-- The key survives to the draws. -/
theorem key_kept (W : Valuation Cert.ReferenceIdeal.τ Cert.ReferenceIdeal.sig (Elt Ideal)) :
    after ((classes d).drop 48) W (Proc.devRef .tc Cert.ReferenceIdeal.main_v94) = W (Proc.devRef .tc Cert.ReferenceIdeal.main_v94) := by
  simp only [classes, part1, relu_1, relu_2, clip, List.cons_append, List.nil_append, List.append_nil, List.take_succ_cons, List.take_zero, List.take_nil, List.drop_succ_cons, List.drop_zero]
  after_reads_simp

open Cert.ReferenceIdeal.Lines in
/-- The noise is the same on both sides, whatever the inputs. -/
theorem noise_eq (V : Valuation Cert.ReferenceIdeal.τ Cert.ReferenceIdeal.sig (Elt Ideal)) :
    Cert.KernelIdeal.Value.noiseOf m c = noiseOf V d := by
  refine Cert.Noise.noise_same _ _ ?_
  unfold Cert.Noise.Same0
  rw [classes_cut, after_append, after_append, after_append, after_append]
  exact (Cert.Noise.key_same _ _ d).trans (key_kept d _).symm

/-- Equal arguments are equal inputs. -/
theorem inputs_eq (V : Valuation Cert.ReferenceIdeal.τ Cert.ReferenceIdeal.sig (Elt Ideal))
    (h0 : (V (Proc.devRef .tc Cert.ReferenceIdeal.main_arg0) : FVec Ideal Cert.KernelIdeal.S64x7x1x45x45 .f32) = m ((c.tc : Thread Cert.KernelIdeal.nD Cert.KernelIdeal.τ).loc Cert.KernelIdeal.main_arg0))
    (h1 : (V (Proc.devRef .tc Cert.ReferenceIdeal.main_arg1) : FVec Ideal Cert.KernelIdeal.S32x1x3x3 .f32) = m ((c.tc : Thread Cert.KernelIdeal.nD Cert.KernelIdeal.τ).loc Cert.KernelIdeal.main_arg1))
    (h2 : (V (Proc.devRef .tc Cert.ReferenceIdeal.main_arg2) : FVec Ideal Cert.KernelIdeal.S32 .f32) = m ((c.tc : Thread Cert.KernelIdeal.nD Cert.KernelIdeal.τ).loc Cert.KernelIdeal.main_arg2))
    (h3 : (V (Proc.devRef .tc Cert.ReferenceIdeal.main_arg3) : FVec Ideal Cert.KernelIdeal.S64x32x3x3 .f32) = m ((c.tc : Thread Cert.KernelIdeal.nD Cert.KernelIdeal.τ).loc Cert.KernelIdeal.main_arg3))
    (h4 : (V (Proc.devRef .tc Cert.ReferenceIdeal.main_arg4) : FVec Ideal Cert.KernelIdeal.S64 .f32) = m ((c.tc : Thread Cert.KernelIdeal.nD Cert.KernelIdeal.τ).loc Cert.KernelIdeal.main_arg4))
    (h5 : (V (Proc.devRef .tc Cert.ReferenceIdeal.main_arg5) : FVec Ideal Cert.KernelIdeal.S1024x7744 .f32) = m ((c.tc : Thread Cert.KernelIdeal.nD Cert.KernelIdeal.τ).loc Cert.KernelIdeal.main_arg5))
    (h6 : (V (Proc.devRef .tc Cert.ReferenceIdeal.main_arg6) : FVec Ideal Cert.KernelIdeal.S1024 .f32) = m ((c.tc : Thread Cert.KernelIdeal.nD Cert.KernelIdeal.τ).loc Cert.KernelIdeal.main_arg6))
    (h7 : (V (Proc.devRef .tc Cert.ReferenceIdeal.main_arg7) : FVec Ideal Cert.KernelIdeal.S14x1024 .f32) = m ((c.tc : Thread Cert.KernelIdeal.nD Cert.KernelIdeal.τ).loc Cert.KernelIdeal.main_arg7))
    (h8 : (V (Proc.devRef .tc Cert.ReferenceIdeal.main_arg8) : FVec Ideal Cert.KernelIdeal.S14 .f32) = m ((c.tc : Thread Cert.KernelIdeal.nD Cert.KernelIdeal.τ).loc Cert.KernelIdeal.main_arg8))
    (h9 : (V (Proc.devRef .tc Cert.ReferenceIdeal.main_arg9) : IVec Cert.KernelIdeal.S64 32) = m ((c.tc : Thread Cert.KernelIdeal.nD Cert.KernelIdeal.τ).loc Cert.KernelIdeal.main_arg9)) :
    Cert.ReferenceIdeal.Lines.inputs V = Cert.KernelIdeal.Value.inputs m c := by
  unfold Cert.ReferenceIdeal.Lines.inputs Cert.KernelIdeal.Value.inputs
  rw [Cert.Layers.Inputs.mk.injEq]
  exact ⟨h0, h1, h2, h3, h4, h5, h6, h7, h8, h9⟩

variable (h : Cert.ReferenceIdeal.Lines.inputs (launchContents m' d) = Cert.KernelIdeal.Value.inputs m c)
include h

theorem symbols_eq (i : Cert.KernelIdeal.S64x7x14.Idx) : (Cert.ReferenceIdeal.Lines.atEnd m' d (Proc.devRef .tc Cert.ReferenceIdeal.main_v113) : FVec Ideal Cert.KernelIdeal.S64x7x14 .f32) i
    = (Cert.KernelIdeal.Stage.atReturn m c (Proc.devRef .tc Cert.KernelIdeal.main_v31) : FVec Ideal Cert.KernelIdeal.S64x7x14 .f32) i := by
  rw [eq_ix3 i]
  refine (Cert.ReferenceIdeal.Lines.symbols_at _ d (i 0) (i 1) (i 2)).trans (Eq.trans ?_ (Cert.KernelIdeal.Value.symbols_at m c (i 0) (i 1) (i 2)).symm)
  rw [h, noise_eq m c d]

theorem members_eq (i : Cert.KernelIdeal.S64x7x14.Idx) : (Cert.ReferenceIdeal.Lines.atEnd m' d (Proc.devRef .tc Cert.ReferenceIdeal.main_v102) : FVec Ideal Cert.KernelIdeal.S64x7x14 .f32) i
    = (Cert.KernelIdeal.Stage.atReturn m c (Proc.devRef .tc Cert.KernelIdeal.main_v32) : FVec Ideal Cert.KernelIdeal.S64x7x14 .f32) i := by
  rw [eq_ix3 i]
  refine (Cert.ReferenceIdeal.Lines.members_at _ d (i 0) (i 1) (i 2)).trans (Eq.trans ?_ (Cert.KernelIdeal.Value.members_at m c (i 0) (i 1) (i 2)).symm)
  rw [h, noise_eq m c d]

end Cert.Same

end
-- ==== Proof.lean ====
/- The claims: the program runs and keeps its arguments, read at machine words and over the extended reals, and so does
   the reference; and over the extended reals, from the same inputs, the two leave the same results. -/
module

public import proofs.«01_k».proof.Defs
public import proofs.«01_k».proof.Proof.Kernel.Run
public import proofs.«01_k».proof.Proof.KernelIdeal.Run
public import proofs.«01_k».proof.Proof.Reference.Run
public import proofs.«01_k».proof.Proof.Value.Same

@[expose] public section

set_option maxRecDepth 16384

noncomputable section

namespace Cert.Proof

open Idealize.ShloMosaic Idealize.ShloMosaic.TcCoe Idealize.SL.Sem

open Cert.KernelIdeal.Stage Cert.KernelIdeal in
/-- The kernel's run, with its results and arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v31) = atReturn m c (Proc.devRef .tc main_v31)
      ∧ r.2.mem ((c.tc : Thread nD τ).loc main_v32) = atReturn m c (Proc.devRef .tc main_v32)
      ∧ ∀ a ∈ args, r.2.mem ((c.tc : Thread nD τ).loc a) = m ((c.tc : Thread nD τ).loc a) :=
  (θ_run defs _ _).mono (fun r h c => ⟨h.1 c _ (unscoped_mem main_v31 (by decide)), h.1 c _ (unscoped_mem main_v32 (by decide)),
    fun a ha => (h.1 c _ (unscoped_mem a ((by decide : ∀ a ∈ args, ¬ (Proc.devRef .tc a : DevRef τ sig).isScoped) a ha))).trans (atReturn_arg m c a ha)⟩)
    (run m g)

set_option maxHeartbeats 0 in
/-- The two results agree. -/
theorem same : Cert.algebraic_KernelIdeal_ReferenceIdeal (hKernelIdeal := Cert.KernelIdeal.Gen.facts) (hReferenceIdeal := Cert.ReferenceIdeal.Gen.facts) := by
  intro m g m' g' _ hagree
  have hin : ∀ c, Cert.ReferenceIdeal.Lines.inputs (StableHlo.launchContents m' c) = Cert.KernelIdeal.Value.inputs m c := fun c =>
    Cert.Same.inputs_eq m c _ (hagree c).1 (hagree c).2.1 (hagree c).2.2.1 (hagree c).2.2.2.1 (hagree c).2.2.2.2.1 (hagree c).2.2.2.2.2.1
      (hagree c).2.2.2.2.2.2.1 (hagree c).2.2.2.2.2.2.2.1 (hagree c).2.2.2.2.2.2.2.2.1 (hagree c).2.2.2.2.2.2.2.2.2
  clear hagree
  refine ⟨fun c => Cert.KernelIdeal.Stage.atReturn m c (Proc.devRef .tc Cert.KernelIdeal.main_v31),
    fun c => Cert.KernelIdeal.Stage.atReturn m c (Proc.devRef .tc Cert.KernelIdeal.main_v32), ?_, ?_⟩
  · refine (θ_run _ _ _).mono (fun r h c => ?_) (kernel_run m g)
    obtain ⟨h1, h2, ha⟩ := h c
    exact ⟨h1, h2, ha _ (by decide), ha _ (by decide), ha _ (by decide), ha _ (by decide), ha _ (by decide), ha _ (by decide), ha _ (by decide),
      ha _ (by decide), ha _ (by decide), ha _ (by decide)⟩
  · refine (θ_run _ _ _).mono (fun r h c => ?_) (Cert.ReferenceIdeal.Lines.run m' g')
    have ha : ∀ {b}, b ∈ Cert.ReferenceIdeal.Lines.argRefs → _ := fun {b} hb => (h c b).trans (Cert.ReferenceIdeal.Lines.atEnd_arg m' c hb)
    exact ⟨(h c _).trans (funext fun i => Cert.Same.symbols_eq m c m' c (hin c) i), (h c _).trans (funext fun i => Cert.Same.members_eq m c m' c (hin c) i),
      ha (by decide), ha (by decide), ha (by decide), ha (by decide), ha (by decide), ha (by decide), ha (by decide), ha (by decide), ha (by decide), ha (by decide)⟩

/-- The claims hold. -/
theorem claim : Cert.Claim :=
  ⟨Cert.Kernel.Gen.facts, Cert.KernelIdeal.Gen.facts, Cert.ReferenceIdeal.Gen.facts,
    fun m g _ => Cert.Kernel.Stage.frame m g, fun m g _ => Cert.KernelIdeal.Stage.frame m g,
    fun m g _ => Cert.ReferenceIdeal.Lines.frame m g, trivial, same⟩

end Cert.Proof

end
